-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mod [hPre_finite_mod : Cert.Pre_finite_mod.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mod.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mod [hPre_finite_mod : Cert.Pre_finite_mod.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mod.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_mod [hKernel4Ideal : Cert.Kernel4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mod m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_mod [hReference4Ideal : Cert.Reference4Ideal.Facts] [hPre_finite_mod : Cert.Pre_finite_mod.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mod m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_mod [hKernel4Ideal : Cert.Kernel4Ideal.Facts] [hReference4Ideal : Cert.Reference4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mod m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)) (v5 : (c : Dev Cert.Kernel4Ideal.nD) → Buf (Elt Ideal) ((c.tc : Thread Cert.Kernel4Ideal.nD Cert.Kernel4Ideal.τ).loc Cert.Kernel4Ideal.main_v16_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_v16_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v35) = v4 c
          ∧ r.2.mem ((c.tc : Thread Cert.Reference4Ideal.nD Cert.Reference4Ideal.τ).loc Cert.Reference4Ideal.main_v36) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_experts_exist : Cert.Pre_experts_exist.Facts) (hPre_finite_mod : Cert.Pre_finite_mod.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mod (hKernel4Ideal := hKernel4Ideal) (hPre_finite_mod := hPre_finite_mod)
    ∧ quiescent_Reference4Ideal (hReference4Ideal := hReference4Ideal)
    ∧ quiescent_Reference4Ideal_pre_finite_mod (hReference4Ideal := hReference4Ideal) (hPre_finite_mod := hPre_finite_mod)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal) (hPre_experts_exist := hPre_experts_exist)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mod (hKernel4Ideal := hKernel4Ideal) (hReference4Ideal := hReference4Ideal) (hPre_finite_mod := hPre_finite_mod)
-- ==== Pre_experts_exist.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S69632x1024 .f32) (main_arg1 : IVec S136 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite_mod.lean ====
abbrev S32768x1024 : Shape := ⟨2, ![32768, 1024]⟩
abbrev S2x1x1024 : Shape := ⟨3, ![2, 1, 1024]⟩
abbrev S1024x2736 : Shape := ⟨2, ![1024, 2736]⟩
abbrev S_ : Shape := ⟨0, ![]⟩

class Facts : Prop where
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel
  bcast_S_S1024x2736 : S_.BroadcastsInDim S1024x2736 (![] : Fin 0 → Fin S1024x2736.rank)
  reducesTo_S1024x2736_S_d0_1 : S1024x2736.ReducesTo [0, 1] S_

variable [Facts]

def fn {F : FTy → Type} [FloatOps F] (main_arg0 : FVec F S32768x1024 .f32) (main_arg1 : FVec F S2x1x1024 .f32) (main_arg2 : FVec F S2x1x1024 .f32) (main_arg3 : FVec F S1024x2736 .f32) : IVec S_ 1 :=
  let main_v0 : FVec F S2x1x1024 .f32 := Host.absf main_arg1
  let main_cst : FVec F S_ .f32 := constant S_ .f32 0x7F800000#32
  let main_v1 : FVec F S2x1x1024 .f32 := broadcastInDim S2x1x1024 ![] bcast_S_S2x1x1024 main_cst
  let main_v2 : IVec S2x1x1024 1 := cmpf .olt main_v0 main_v1
  let main_c : IVec S_ 1 := constantI S_ 1 1#1
  let main_v3 : IVec S_ 1 := (fun x v => Host.reduce IntOp.andi x v reducesTo_S2x1x1024_S_d0_1_2 h_S_) main_v2 main_c
  let main_v4 : FVec F S2x1x1024 .f32 := Host.absf main_arg2
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : IVec S_ 1 := andi main_v3 main_v7
  let main_v9 : FVec F S1024x2736 .f32 := Host.absf main_arg3
  let main_cst_2 : FVec F S_ .f32 := constant S_ .f32 0x7F800000#32
  let main_v10 : FVec F S1024x2736 .f32 := broadcastInDim S1024x2736 ![] bcast_S_S1024x2736 main_cst_2
  let main_v11 : IVec S1024x2736 1 := cmpf .olt main_v9 main_v10
  let main_c_3 : IVec S_ 1 := constantI S_ 1 1#1
  let main_v12 : IVec S_ 1 := (fun x v => Host.reduce IntOp.andi x v reducesTo_S1024x2736_S_d0_1 h_S_) main_v11 main_c_3
  let main_v13 : IVec S_ 1 := andi main_v8 main_v12
  main_v13
-- ==== Pre_finite_qk.lean ====
abbrev S32768x512 : Shape := ⟨2, ![32768, 512]⟩
abbrev S32768x256 : Shape := ⟨2, ![32768, 256]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .bf16) (main_arg1 : FVec F S32768x512 .bf16) (main_arg2 : FVec F S32768x256 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  main_v10
-- ==== Kernel.lean ====
abbrev S32768x512 : Shape := ⟨2, ![32768, 512]⟩
abbrev S32768x256 : Shape := ⟨2, ![32768, 256]⟩
abbrev S136 : Shape := ⟨1, ![136]⟩
abbrev S2x16384x512 : Shape := ⟨3, ![2, 16384, 512]⟩
abbrev S2x16384x256 : Shape := ⟨3, ![2, 16384, 256]⟩
abbrev S1x1024x256 : Shape := ⟨3, ![1, 1024, 256]⟩
abbrev S1 : Shape := ⟨1, ![1]⟩
abbrev S1x1024x128 : Shape := ⟨3, ![1, 1024, 128]⟩
abbrev S2x1024x128 : Shape := ⟨3, ![2, 1024, 128]⟩
abbrev S1024x128 : Shape := ⟨2, ![1024, 128]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 11
  | .smem => 2
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x256, .bf16⟩
  | .hbm, ⟨3, _⟩ => ⟨S2x16384x512, .bf16⟩
  | .hbm, ⟨4, _⟩ => ⟨S2x16384x512, .bf16⟩
  | .hbm, ⟨5, _⟩ => ⟨S2x16384x256, .bf16⟩
  | .hbm, ⟨6, _⟩ => ⟨S2x16384x256, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | .local _ .smem, ⟨0, _⟩ => ⟨S136, .i32⟩
  | .local _ .smem, ⟨1, _⟩ => ⟨S136, .i32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 136], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  ![arg0.toNat, v1.toNat, arg1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S136) ![v0.toNat] S1.size (k0_off1_inb i)) numel1_S1
  let c0_i32 : BitVec 32 := 0#32
  ![arg0.toNat, v1.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S136) ![v0.toNat] S1.size (k0_off1_inb i)) numel1_S1
  let c0_i32 : BitVec 32 := 0#32
  ![arg0.toNat, v1.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  ![arg0.toNat, v1.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32768x512 : Shape := ⟨2, ![32768, 512]⟩
abbrev S32768x256 : Shape := ⟨2, ![32768, 256]⟩
abbrev S2x16384x4x128 : Shape := ⟨4, ![2, 16384, 4, 128]⟩
abbrev S2x16384x4x64 : Shape := ⟨4, ![2, 16384, 4, 64]⟩
abbrev S2x4x16384x16384 : Shape := ⟨4, ![2, 4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x256 : Shape := ⟨3, ![2, 16384, 256]⟩

abbrev nBuf : Space → Nat
  | .hbm => 39
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x256, .bf16⟩
  | .hbm, ⟨3, _⟩ => ⟨S32768x512, .f32⟩
  | .hbm, ⟨4, _⟩ => ⟨S2x16384x4x128, .f32⟩
  | .hbm, ⟨5, _⟩ => ⟨S32768x512, .f32⟩
  | .hbm, ⟨6, _⟩ => ⟨S2x16384x4x128, .f32⟩
  | .hbm, ⟨7, _⟩ => ⟨S32768x256, .f32⟩
  | .hbm, ⟨8, _⟩ => ⟨S2x16384x4x64, .f32⟩
  | .hbm, ⟨9, _⟩ => ⟨S2x4x16384x16384, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S_, .f32⟩
  | .hbm, ⟨17, _⟩ => ⟨S_, .f32⟩
  | .hbm, ⟨18, _⟩ => ⟨S2x4x16384x16384, .i1⟩
  | .hbm, ⟨19, _⟩ => ⟨S2x4x16384x16384, .f32⟩
  | .hbm, ⟨20, _⟩ => ⟨S2x4x16384x16384, .f32⟩
  | .hbm, ⟨21, _⟩ => ⟨S_, .f32⟩
  | .hbm, ⟨22, _⟩ => ⟨S2x4x16384, .f32⟩
  | .hbm, ⟨23, _⟩ => ⟨S_, .f32⟩
  | .hbm, ⟨24, _⟩ => ⟨S2x4x16384, .f32⟩
  | .hbm, ⟨25, _⟩ => ⟨S2x4x16384, .f32⟩
  | .hbm, ⟨26, _⟩ => ⟨S2x4x16384x1, .f32⟩
  | .hbm, ⟨27, _⟩ => ⟨S2x4x16384x16384, .f32⟩
  | .hbm, ⟨28, _⟩ => ⟨S2x4x16384x16384, .f32⟩
  | .hbm, ⟨29, _⟩ => ⟨S2x4x16384x16384, .f32⟩
  | .hbm, ⟨30, _⟩ => ⟨S_, .f32⟩
  | .hbm, ⟨31, _⟩ => ⟨S2x4x16384, .f32⟩
  | .hbm, ⟨32, _⟩ => ⟨S2x4x16384x1, .f32⟩
  | .hbm, ⟨33, _⟩ => ⟨S2x4x16384x16384, .f32⟩
  | .hbm, ⟨34, _⟩ => ⟨S2x4x16384x16384, .f32⟩
  | .hbm, ⟨35, _⟩ => ⟨S2x4x64x16384, .f32⟩
  | .hbm, ⟨36, _⟩ => ⟨S2x16384x4x64, .f32⟩
  | .hbm, ⟨37, _⟩ => ⟨S2x16384x256, .f32⟩
  | .hbm, ⟨38, _⟩ => ⟨S2x16384x256, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel2.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 8
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S136x512x1024 : Shape := ⟨3, ![136, 512, 1024]⟩
abbrev S136x1 : Shape := ⟨2, ![136, 1]⟩
abbrev S136x1024x3584 : Shape := ⟨3, ![136, 1024, 3584]⟩
abbrev S136x3584x1024 : Shape := ⟨3, ![136, 3584, 1024]⟩
abbrev S136x512x3584 : Shape := ⟨3, ![136, 512, 3584]⟩
abbrev S_ : Shape := ⟨0, ![]⟩
abbrev S136x1x1 : Shape := ⟨3, ![136, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S136, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S136x512x1024, .f32⟩
  | .hbm, ⟨7, _⟩ => ⟨S136x1, .i32⟩
  | .hbm, ⟨8, _⟩ => ⟨S136x1024x3584, .f32⟩
  | .hbm, ⟨9, _⟩ => ⟨S136x1, .i32⟩
  | .hbm, ⟨10, _⟩ => ⟨S136x1024x3584, .f32⟩
  | .hbm, ⟨11, _⟩ => ⟨S136x1, .i32⟩
  | .hbm, ⟨12, _⟩ => ⟨S136x3584x1024, .f32⟩
  | .hbm, ⟨13, _⟩ => ⟨S136x512x3584, .f32⟩
  | .hbm, ⟨14, _⟩ => ⟨S136x512x3584, .f32⟩
  | .hbm, ⟨15, _⟩ => ⟨S136x512x3584, .f32⟩
  | .hbm, ⟨16, _⟩ => ⟨S_, .f32⟩
  | .hbm, ⟨17, _⟩ => ⟨S136x512x3584, .f32⟩
  | .hbm, ⟨18, _⟩ => ⟨S136x512x3584, .f32⟩
  | .hbm, ⟨19, _⟩ => ⟨S_, .f32⟩
  | .hbm, ⟨20, _⟩ => ⟨S136x512x3584, .f32⟩
  | .hbm, ⟨21, _⟩ => ⟨S136x512x3584, .f32⟩
  | .hbm, ⟨22, _⟩ => ⟨S136x512x3584, .f32⟩
  | .hbm, ⟨23, _⟩ => ⟨S136x512x3584, .f32⟩
  | .hbm, ⟨24, _⟩ => ⟨S136x512x3584, .f32⟩
  | .hbm, ⟨25, _⟩ => ⟨S136x512x1024, .f32⟩
  | .hbm, ⟨26, _⟩ => ⟨S136, .i32⟩
  | .hbm, ⟨27, _⟩ => ⟨S136x1x1, .i32⟩
  | .hbm, ⟨28, _⟩ => ⟨S_, .i32⟩
  | .hbm, ⟨29, _⟩ => ⟨S136x1x1, .i32⟩
  | .hbm, ⟨30, _⟩ => ⟨S136x1x1, .i1⟩
  | .hbm, ⟨31, _⟩ => ⟨S_, .f32⟩
  | .hbm, ⟨32, _⟩ => ⟨S_, .f32⟩
  | .hbm, ⟨33, _⟩ => ⟨S136x512x1024, .i1⟩
  | .hbm, ⟨34, _⟩ => ⟨S136x512x1024, .f32⟩
  | .hbm, ⟨35, _⟩ => ⟨S136x512x1024, .f32⟩
  | .hbm, ⟨36, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_call1_v0 : Ref sig .tc := ⟨.hbm, 9, rfl⟩
abbrev main_v2 : Ref sig .tc := ⟨.hbm, 10, rfl⟩
abbrev main_call2_v0 : Ref sig .tc := ⟨.hbm, 11, rfl⟩
abbrev main_v3 : Ref sig .tc := ⟨.hbm, 12, rfl⟩
abbrev main_v4 : Ref sig .tc := ⟨.hbm, 13, rfl⟩
abbrev main_call3_v0 : Ref sig .tc := ⟨.hbm, 14, rfl⟩
abbrev main_call3_v1 : Ref sig .tc := ⟨.hbm, 15, rfl⟩
abbrev main_call3_cst : Ref sig .tc := ⟨.hbm, 16, rfl⟩
abbrev main_call3_v2 : Ref sig .tc := ⟨.hbm, 17, rfl⟩
abbrev main_call3_v3 : Ref sig .tc := ⟨.hbm, 18, rfl⟩
abbrev main_call3_cst_0 : Ref sig .tc := ⟨.hbm, 19, rfl⟩
abbrev main_call3_v4 : Ref sig .tc := ⟨.hbm, 20, rfl⟩
abbrev main_call3_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S32768x1024 : Shape := ⟨2, ![32768, 1024]⟩
abbrev S2x1x1024 : Shape := ⟨3, ![2, 1, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1x1x1024 : Shape := ⟨3, ![1, 1, 1024]⟩
abbrev S1024x1408 : Shape := ⟨2, ![1024, 1408]⟩
abbrev S1408x1024 : Shape := ⟨2, ![1408, 1024]⟩
abbrev S512x1408 : Shape := ⟨2, ![512, 1408]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S2x1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1408x1024, .bf16⟩
  | .local _ .vmem, ⟨12, _⟩ => ⟨S1408x1024, .bf16⟩
  | .local _ .vmem, ⟨13, _⟩ => ⟨S512x1024, .f32⟩
  | .local _ .vmem, ⟨14, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_9 : BitVec 32 := 0#32
  let v16 : BitVec 1 := Scalar.cmpi .ne v15 c0_i32_9
  v16

def k0_cond2 (i : grid0.Coords) : BitVec 1 :=
  let arg1 : BitVec 32 := BitVec.ofNat 32 (i 1).val
  let c0_i32_10 : BitVec 32 := 0#32
  let v17 : BitVec 1 := Scalar.cmpi .sgt arg1 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S32768x1024 : Shape := ⟨2, ![32768, 1024]⟩
abbrev S2x1x1024 : Shape := ⟨3, ![2, 1, 1024]⟩
abbrev S1024x2816 : Shape := ⟨2, ![1024, 2816]⟩
abbrev S2816x1024 : Shape := ⟨2, ![2816, 1024]⟩
abbrev S1024 : Shape := ⟨1, ![1024]⟩
abbrev S2x16384x1024 : Shape := ⟨3, ![2, 16384, 1024]⟩
abbrev S2x16384x2816 : Shape := ⟨3, ![2, 16384, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S2x1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S2x16384x1024, .f32⟩
  | .hbm, ⟨9, _⟩ => ⟨S2x16384x2816, .f32⟩
  | .hbm, ⟨10, _⟩ => ⟨S2x16384x2816, .f32⟩
  | .hbm, ⟨11, _⟩ => ⟨S2x16384x2816, .f32⟩
  | .hbm, ⟨12, _⟩ => ⟨S_, .f32⟩
  | .hbm, ⟨13, _⟩ => ⟨S2x16384x2816, .f32⟩
  | .hbm, ⟨14, _⟩ => ⟨S2x16384x2816, .f32⟩
  | .hbm, ⟨15, _⟩ => ⟨S_, .f32⟩
  | .hbm, ⟨16, _⟩ => ⟨S2x16384x2816, .f32⟩
  | .hbm, ⟨17, _⟩ => ⟨S2x16384x2816, .f32⟩
  | .hbm, ⟨18, _⟩ => ⟨S2x16384x2816, .f32⟩
  | .hbm, ⟨19, _⟩ => ⟨S2x16384x2816, .f32⟩
  | .hbm, ⟨20, _⟩ => ⟨S2x16384x2816, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩

abbrev nD : Nat := 1
abbrev τ : Topo := Topo.v7x

variable {F : FTy → Type} [FloatOps F]
-- ==== Kernel4.lean ====
abbrev S32768x1024 : Shape := ⟨2, ![32768, 1024]⟩
abbrev S2x1x1024 : Shape := ⟨3, ![2, 1, 1024]⟩
abbrev S1024x2736 : Shape := ⟨2, ![1024, 2736]⟩
abbrev S1024x32 : Shape := ⟨2, ![1024, 32]⟩
abbrev S1024x16 : Shape := ⟨2, ![1024, 16]⟩
abbrev S1024x8 : Shape := ⟨2, ![1024, 8]⟩
abbrev S_ : Shape := ⟨0, ![]⟩
abbrev S1024x48 : Shape := ⟨2, ![1024, 48]⟩
abbrev S1024x128 : Shape := ⟨2, ![1024, 128]⟩
abbrev S1024x384 : Shape := ⟨2, ![1024, 384]⟩
abbrev S1024x512 : Shape := ⟨2, ![1024, 512]⟩
abbrev S1024x768 : Shape := ⟨2, ![1024, 768]⟩
abbrev S1024x256 : Shape := ⟨2, ![1024, 256]⟩
abbrev S1024x2816 : Shape := ⟨2, ![1024, 2816]⟩
abbrev S32768x384 : Shape := ⟨2, ![32768, 384]⟩
abbrev S32768x128 : Shape := ⟨2, ![32768, 128]⟩
abbrev S32768x512 : Shape := ⟨2, ![32768, 512]⟩
abbrev S32768x768 : Shape := ⟨2, ![32768, 768]⟩
abbrev S32768x256 : Shape := ⟨2, ![32768, 256]⟩
abbrev S512x1024 : Shape := ⟨2, ![512, 1024]⟩
abbrev S1x1x1024 : Shape := ⟨3, ![1, 1, 1024]⟩
abbrev S512x384 : Shape := ⟨2, ![512, 384]⟩
abbrev S512x128 : Shape := ⟨2, ![512, 128]⟩
abbrev S512x512 : Shape := ⟨2, ![512, 512]⟩
abbrev S512x768 : Shape := ⟨2, ![512, 768]⟩
abbrev S512x256 : Shape := ⟨2, ![512, 256]⟩
abbrev S512 : Shape := ⟨1, ![512]⟩
abbrev S512x1 : Shape := ⟨2, ![512, 1]⟩
abbrev S1x1024 : Shape := ⟨2, ![1, 1024]⟩

abbrev nBuf : Space → Nat
  | .hbm => 27
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S2x1x1024, .f32⟩
  | .hbm, ⟨2, _⟩ => ⟨S2x1x1024, .f32⟩
  | .hbm, ⟨3, _⟩ => ⟨S1024x2736, .f32⟩
  | .hbm, ⟨4, _⟩ => ⟨S1024x32, .f32⟩
  | .hbm, ⟨5, _⟩ => ⟨S1024x16, .f32⟩
  | .hbm, ⟨6, _⟩ => ⟨S1024x16, .f32⟩
  | .hbm, ⟨7, _⟩ => ⟨S1024x16, .f32⟩
  | .hbm, ⟨8, _⟩ => ⟨S1024x32, .f32⟩
  | .hbm, ⟨9, _⟩ => ⟨S1024x8, .f32⟩
  | .hbm, ⟨10, _⟩ => ⟨S1024x8, .f32⟩
  | .hbm, ⟨11, _⟩ => ⟨S_, .f32⟩
  | .hbm, ⟨12, _⟩ => ⟨S1024x48, .f32⟩
  | .hbm, ⟨13, _⟩ => ⟨S1024x128, .f32⟩
  | .hbm, ⟨14, _⟩ => ⟨S1024x384, .f32⟩
  | .hbm, ⟨15, _⟩ => ⟨S1024x512, .f32⟩
  | .hbm, ⟨16, _⟩ => ⟨S1024x768, .f32⟩
  | .hbm, ⟨17, _⟩ => ⟨S1024x768, .f32⟩
  | .hbm, ⟨18, _⟩ => ⟨S1024x256, .f32⟩
  | .hbm, ⟨19, _⟩ => ⟨S1024x2816, .f32⟩
  | .hbm, ⟨20, _⟩ => ⟨S1024x2816, .bf16⟩
  | .hbm, ⟨21, _⟩ => ⟨S32768x384, .f32⟩
  | .hbm, ⟨22, _⟩ => ⟨S32768x128, .f32⟩
  | .hbm, ⟨23, _⟩ => ⟨S32768x512, .f32⟩
  | .hbm, ⟨24, _⟩ => ⟨S32768x768, .f32⟩
  | .hbm, ⟨25, _⟩ => ⟨S32768x768, .f32⟩
  | .hbm, ⟨26, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S512x384, .f32⟩
  | .local _ .vmem, ⟨8, _⟩ => ⟨S512x384, .f32⟩
  | .local _ .vmem, ⟨9, _⟩ => ⟨S512x128, .f32⟩
  | .local _ .vmem, ⟨10, _⟩ => ⟨S512x128, .f32⟩
  | .local _ .vmem, ⟨11, _⟩ => ⟨S512x512, .f32⟩
  | .local _ .vmem, ⟨12, _⟩ => ⟨S512x512, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x256, .f32⟩
  | .local _ .vmem, ⟨18, _⟩ => ⟨S512x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S32768x1024 : Shape := ⟨2, ![32768, 1024]⟩
abbrev S2x1x1024 : Shape := ⟨3, ![2, 1, 1024]⟩
abbrev S1024x2736 : Shape := ⟨2, ![1024, 2736]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S2x16384x2736 : Shape := ⟨3, ![2, 16384, 2736]⟩
abbrev S2x16384x384 : Shape := ⟨3, ![2, 16384, 384]⟩
abbrev S2x16384x32 : Shape := ⟨3, ![2, 16384, 32]⟩
abbrev S2x16384x512 : Shape := ⟨3, ![2, 16384, 512]⟩
abbrev S2x16384x768 : Shape := ⟨3, ![2, 16384, 768]⟩
abbrev S2x16384x8 : Shape := ⟨3, ![2, 16384, 8]⟩
abbrev S2x16384x256 : Shape := ⟨3, ![2, 16384, 256]⟩
abbrev S2x16384x48 : Shape := ⟨3, ![2, 16384, 48]⟩
abbrev S2x16384x16 : Shape := ⟨3, ![2, 16384, 16]⟩
abbrev S2x16384x128 : Shape := ⟨3, ![2, 16384, 128]⟩
abbrev S32768x384 : Shape := ⟨2, ![32768, 384]⟩
abbrev S32768x128 : Shape := ⟨2, ![32768, 128]⟩
abbrev S32768x512 : Shape := ⟨2, ![32768, 512]⟩
abbrev S32768x768 : Shape := ⟨2, ![32768, 768]⟩
abbrev S32768x256 : Shape := ⟨2, ![32768, 256]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1x1024, .f32⟩
  | .hbm, ⟨2, _⟩ => ⟨S2x1x1024, .f32⟩
  | .hbm, ⟨3, _⟩ => ⟨S1024x2736, .f32⟩
  | .hbm, ⟨4, _⟩ => ⟨S2x16384x1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S2x16384x2736, .f32⟩
  | .hbm, ⟨26, _⟩ => ⟨S2x16384x384, .f32⟩
  | .hbm, ⟨27, _⟩ => ⟨S2x16384x32, .f32⟩
  | .hbm, ⟨28, _⟩ => ⟨S2x16384x512, .f32⟩
  | .hbm, ⟨29, _⟩ => ⟨S2x16384x768, .f32⟩
  | .hbm, ⟨30, _⟩ => ⟨S2x16384x8, .f32⟩
  | .hbm, ⟨31, _⟩ => ⟨S2x16384x768, .f32⟩
  | .hbm, ⟨32, _⟩ => ⟨S2x16384x256, .f32⟩
  | .hbm, ⟨33, _⟩ => ⟨S2x16384x8, .f32⟩
  | .hbm, ⟨34, _⟩ => ⟨S_, .f32⟩
  | .hbm, ⟨35, _⟩ => ⟨S2x16384x48, .f32⟩
  | .hbm, ⟨36, _⟩ => ⟨S2x16384x16, .f32⟩
  | .hbm, ⟨37, _⟩ => ⟨S2x16384x16, .f32⟩
  | .hbm, ⟨38, _⟩ => ⟨S2x16384x16, .f32⟩
  | .hbm, ⟨39, _⟩ => ⟨S2x16384x128, .f32⟩
  | .hbm, ⟨40, _⟩ => ⟨S32768x384, .f32⟩
  | .hbm, ⟨41, _⟩ => ⟨S32768x128, .f32⟩
  | .hbm, ⟨42, _⟩ => ⟨S32768x512, .f32⟩
  | .hbm, ⟨43, _⟩ => ⟨S32768x768, .f32⟩
  | .hbm, ⟨44, _⟩ => ⟨S32768x768, .f32⟩
  | .hbm, ⟨45, _⟩ => ⟨S32768x256, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Twin.lean ====
module

public import proofs.«01_k».proof.Defs
public import proofs.«01_k».proof.Proof.Gen.Kernel
public import proofs.«01_k».proof.Proof.Gen.KernelIdeal
public import Idealize.ShloMosaic.Lib.Tactic
public import Idealize.ShloMosaic.Lib.Ring

@[expose] public section
set_option maxRecDepth 16384
noncomputable section
namespace Cert.Proof
open Idealize.ShloMosaic Idealize.SL.Sem

theorem twin : (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) = ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by sl_kernel_rfl

end Cert.Proof
end
-- ==== Proof.Runs.lean ====
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-!
  The flash-attention body, run once per control path on symbolic staging buffers.

  A grid point reads two words of its tables, the query block `qi` and the key block `ki`, and takes one of four paths:
  first and last key block at once (`ki = 0 = qi`), first but not last, last but not first, neither. On every path the run
  finds what the body leaves in the three scratch arrays (running maximum, normaliser, accumulator) and, where the key block
  is the last one, in the output's staging buffer.
-/

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev tbM0_0 : Memref sig .tc .smem S136 .i32 := Memref.whole main_c
abbrev tbM0_1 : Memref sig .tc .smem S136 .i32 := Memref.whole main_c_0
abbrev scM0_0 : Memref sig .tc .vmem S2x1024x128 .f32 := Memref.whole cc0_scratch0
abbrev scM0_1 : Memref sig .tc .vmem S2x1024x128 .f32 := Memref.whole cc0_scratch1
abbrev scM0_2 : Memref sig .tc .vmem S2x1024x128 .f32 := Memref.whole cc0_scratch2

/-- The word of a table that the body reads at grid coordinates `i`. -/
abbrev wordAt (M : Memref sig .tc .smem S136 .i32) (i : grid0.Coords) (T : M.view.ty.Contents (Elt F)) : BitVec 32 :=
  View.readAt (Elt F) M.view (Rect.unit (s := S136) (k0_off1 i) S1.size (k0_off1_inb i)).toLoadRect T (Shape.Idx.first (numel1_S1.symm ▸ Nat.one_pos))

/-- The body's first test: the key block is the first one, so the scratch arrays are reset. -/
abbrev Start (k : BitVec 32) : Prop := Scalar.cmpi .ne (Scalar.extui (Scalar.cmpi .eq k 0#32)) 0#32 = 1#1

/-- The body's second test: the key block lies before the query block, so every key counts. -/
abbrev Below (q k : BitVec 32) : Prop := Scalar.cmpi .ne (Scalar.extui (Scalar.cmpi .slt k q)) 0#32 = 1#1

/-- The body's third test: the key block is the query block, so keys are masked and the result is stored. -/
abbrev Last (q k : BitVec 32) : Prop := k0_cond3 q k = 1#1

section Body

variable (c : Dev nD) (i : grid0.Coords)
  (arg5 : Memref sig .tc .vmem S1x1024x256 .bf16) (harg5 : arg5.IsWhole) (arg6 : Memref sig .tc .vmem S1x1024x256 .bf16) (harg6 : arg6.IsWhole)
  (arg7 : Memref sig .tc .vmem S1x1024x128 .bf16) (harg7 : arg7.IsWhole) (arg8 : Memref sig .tc .vmem S1x1024x128 .bf16) (harg8 : arg8.IsWhole)
  (T0 T1 : S136.Idx → Elt F .i32) (x0 x1 : S1x1024x256.Idx → Elt F .bf16) (x2 : S1x1024x128.Idx → Elt F .bf16)

/-- What the body only reads: the three input blocks and its half of the two tables. -/
abbrev Inputs : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (tbM0_0.view.loc (c : Thread nD τ) ↦{fullShare.right} T0)
    ∗ (tbM0_1.view.loc (c : Thread nD τ) ↦{fullShare.right} T1))

/-- The three scratch arrays at given contents. -/
abbrev Scratch (m : Buf (Elt F) ((c : Thread nD τ).loc cc0_scratch0)) (l : Buf (Elt F) ((c : Thread nD τ).loc cc0_scratch1))
    (a : Buf (Elt F) ((c : Thread nD τ).loc cc0_scratch2)) : sProp 𝕄 :=
  iprop((scM0_0.view.loc (c : Thread nD τ) ↦{fullShare} m) ∗ (scM0_1.view.loc (c : Thread nD τ) ↦{fullShare} l)
    ∗ (scM0_2.view.loc (c : Thread nD τ) ↦{fullShare} a))

/-- The body runs to any continuation that its inputs, an output and scratch arrays suffice for. -/
abbrev Runs (O O' : sProp 𝕄) (m : Buf (Elt F) ((c : Thread nD τ).loc cc0_scratch0)) (l : Buf (Elt F) ((c : Thread nD τ).loc cc0_scratch1))
    (a : Buf (Elt F) ((c : Thread nD τ).loc cc0_scratch2)) (m' : Buf (Elt F) ((c : Thread nD τ).loc cc0_scratch0))
    (l' : Buf (Elt F) ((c : Thread nD τ).loc cc0_scratch1)) (a' : Buf (Elt F) ((c : Thread nD τ).loc cc0_scratch2)) : Prop :=
  ∀ K : PUnit → sProp 𝕄,
    iprop(Inputs c arg5 arg6 arg7 T0 T1 x0 x1 x2 ∗ O ∗ Scratch c m l a
        ∗ (iprop(Inputs c arg5 arg6 arg7 T0 T1 x0 x1 x2 ∗ O' ∗ Scratch c m' l' a') -∗ K ⟨⟩))
      ⊢ wp frame (wpE (defs₀ (F := F)) Variants.none c none) Set.univ
          (cc0_mla_flash i tbM0_0 (Memref.isWhole_whole _) tbM0_1 (Memref.isWhole_whole _) arg5 harg5 arg6 harg6 arg7 harg7 arg8 harg8
            scM0_0 (Memref.isWhole_whole _) scM0_1 (Memref.isWhole_whole _) scM0_2 (Memref.isWhole_whole _)) K

set_option backward.proofsInPublic true in
set_option maxHeartbeats 8000000 in
/-- The key block is the first and the last one: scratch reset, masked step, result stored. -/
noncomputable def runFirstLast (hc0 : Start (wordAt tbM0_1 i T1)) (hc1 : ¬Below (wordAt tbM0_0 i T0) (wordAt tbM0_1 i T1))
    (hc2 : Last (wordAt tbM0_0 i T0) (wordAt tbM0_1 i T1)) :
    Σ' (o : List (View.Piece (Elt F) S1x1024x128 .bf16)) (m' : Buf (Elt F) ((c : Thread nD τ).loc cc0_scratch0)) (l' : Buf (Elt F) ((c : Thread nD τ).loc cc0_scratch1)), { a' : Buf (Elt F) ((c : Thread nD τ).loc cc0_scratch2) //
      ∀ (m : Buf (Elt F) ((c : Thread nD τ).loc cc0_scratch0)) (l : Buf (Elt F) ((c : Thread nD τ).loc cc0_scratch1)) (a : Buf (Elt F) ((c : Thread nD τ).loc cc0_scratch2)), Runs c i arg5 harg5 arg6 harg6 arg7 harg7 arg8 harg8 T0 T1 x0 x1 x2 iprop(∃ d, owns (c : Thread nD τ) arg8 fullShare d)
        iprop(∃ f, arg8.view.loc (c : Thread nD τ) ↦[arg8.view.set]{fullShare} arg8.view.writes (Elt F) f o) m l a m' l' a' } :=
  ⟨_, _, _, _, fun m l a K => by
    unfold owns
    rw [cc0_mla_flash_eq_skeleton]; unfold cc0_mla_flash_skel
    iintro ⟨⟨H0, H1, H2, HT0, HT1⟩, ⟨%d3, %f3, -, HO⟩, ⟨HS0, HS1, HS2⟩, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact hc2))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]
    · iexists _; iexact HO
    isplitl [HS0]; · iexact HS0
    isplitl [HS1]; · iexact HS1
    iexact HS2⟩

set_option backward.proofsInPublic true in
set_option maxHeartbeats 8000000 in
/-- The key block is the first but not the last one: scratch reset, unmasked step. -/
noncomputable def runFirst (hc0 : Start (wordAt tbM0_1 i T1)) (hc1 : Below (wordAt tbM0_0 i T0) (wordAt tbM0_1 i T1))
    (hc2 : ¬Last (wordAt tbM0_0 i T0) (wordAt tbM0_1 i T1)) :
    Σ' (m' : Buf (Elt F) ((c : Thread nD τ).loc cc0_scratch0)) (l' : Buf (Elt F) ((c : Thread nD τ).loc cc0_scratch1)), { a' : Buf (Elt F) ((c : Thread nD τ).loc cc0_scratch2) //
      ∀ (y : S1x1024x128.Idx → Elt F .bf16) (m : Buf (Elt F) ((c : Thread nD τ).loc cc0_scratch0)) (l : Buf (Elt F) ((c : Thread nD τ).loc cc0_scratch1)) (a : Buf (Elt F) ((c : Thread nD τ).loc cc0_scratch2)), Runs c i arg5 harg5 arg6 harg6 arg7 harg7 arg8 harg8 T0 T1 x0 x1 x2 (owns (c : Thread nD τ) arg8 fullShare y)
        (owns (c : Thread nD τ) arg8 fullShare y) m l a m' l' a' } :=
  ⟨_, _, _, fun y m l a K => by
    unfold owns
    rw [cc0_mla_flash_eq_skeleton]; unfold cc0_mla_flash_skel
    iintro ⟨⟨H0, H1, H2, HT0, HT1⟩, ⟨%f3, %hf3, HO⟩, ⟨HS0, HS1, HS2⟩, Hk⟩
    obtain rfl := harg8.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact hc2))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]
    · iexists _; isplitr [HO]; · ipureintro; exact harg8.read_unread y
      iexact HO
    isplitl [HS0]; · iexact HS0
    isplitl [HS1]; · iexact HS1
    iexact HS2⟩

set_option backward.proofsInPublic true in
set_option maxHeartbeats 8000000 in
/-- The key block is the last but not the first one: masked step, result stored. -/
noncomputable def runLast (hc0 : ¬Start (wordAt tbM0_1 i T1)) (hc1 : ¬Below (wordAt tbM0_0 i T0) (wordAt tbM0_1 i T1))
    (hc2 : Last (wordAt tbM0_0 i T0) (wordAt tbM0_1 i T1))
    (m : Buf (Elt F) ((c : Thread nD τ).loc cc0_scratch0)) (l : Buf (Elt F) ((c : Thread nD τ).loc cc0_scratch1)) (a : Buf (Elt F) ((c : Thread nD τ).loc cc0_scratch2)) :
    Σ' (o : List (View.Piece (Elt F) S1x1024x128 .bf16)) (m' : Buf (Elt F) ((c : Thread nD τ).loc cc0_scratch0)) (l' : Buf (Elt F) ((c : Thread nD τ).loc cc0_scratch1)), { a' : Buf (Elt F) ((c : Thread nD τ).loc cc0_scratch2) //
      Runs c i arg5 harg5 arg6 harg6 arg7 harg7 arg8 harg8 T0 T1 x0 x1 x2 iprop(∃ d, owns (c : Thread nD τ) arg8 fullShare d)
        iprop(∃ f, arg8.view.loc (c : Thread nD τ) ↦[arg8.view.set]{fullShare} arg8.view.writes (Elt F) f o) m l a m' l' a' } :=
  ⟨_, _, _, _, fun K => by
    unfold owns
    rw [cc0_mla_flash_eq_skeleton]; unfold cc0_mla_flash_skel
    iintro ⟨⟨H0, H1, H2, HT0, HT1⟩, ⟨%d3, %f3, -, HO⟩, ⟨HS0, HS1, HS2⟩, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact hc2))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]
    · iexists _; iexact HO
    isplitl [HS0]; · iexact HS0
    isplitl [HS1]; · iexact HS1
    iexact HS2⟩

set_option backward.proofsInPublic true in
set_option maxHeartbeats 8000000 in
/-- The key block is neither the first nor the last one: unmasked step. -/
noncomputable def runMiddle (hc0 : ¬Start (wordAt tbM0_1 i T1)) (hc1 : Below (wordAt tbM0_0 i T0) (wordAt tbM0_1 i T1))
    (hc2 : ¬Last (wordAt tbM0_0 i T0) (wordAt tbM0_1 i T1))
    (m : Buf (Elt F) ((c : Thread nD τ).loc cc0_scratch0)) (l : Buf (Elt F) ((c : Thread nD τ).loc cc0_scratch1)) (a : Buf (Elt F) ((c : Thread nD τ).loc cc0_scratch2)) :
    Σ' (m' : Buf (Elt F) ((c : Thread nD τ).loc cc0_scratch0)) (l' : Buf (Elt F) ((c : Thread nD τ).loc cc0_scratch1)), { a' : Buf (Elt F) ((c : Thread nD τ).loc cc0_scratch2) //
      ∀ (y : S1x1024x128.Idx → Elt F .bf16), Runs c i arg5 harg5 arg6 harg6 arg7 harg7 arg8 harg8 T0 T1 x0 x1 x2 (owns (c : Thread nD τ) arg8 fullShare y)
        (owns (c : Thread nD τ) arg8 fullShare y) m l a m' l' a' } :=
  ⟨_, _, _, fun y K => by
    unfold owns
    rw [cc0_mla_flash_eq_skeleton]; unfold cc0_mla_flash_skel
    iintro ⟨⟨H0, H1, H2, HT0, HT1⟩, ⟨%f3, %hf3, HO⟩, ⟨HS0, HS1, HS2⟩, Hk⟩
    obtain rfl := harg8.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact hc2))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]
    · iexists _; isplitr [HO]; · ipureintro; exact harg8.read_unread y
      iexact HO
    isplitl [HS0]; · iexact HS0
    isplitl [HS1]; · iexact HS1
    iexact HS2⟩

end Body

end Cert.KernelIdeal.Flash
-- ==== Proof.Step.lean ====
module

public import proofs.«01_k».proof.Proof.Runs
public import Idealize.ShloMosaic.Lib.VecWindow
public import Idealize.ShloMosaic.Lib.Pipeline.ReadBack
public import Idealize.ShloMosaic.Lib.Pipeline.ValueKit

/-!
  One grid point of the flash attention as a function of values.

  A grid point works on two heads. Of each it keeps, per query row and repeated along 128 lanes, the running maximum of the
  scores and the running normaliser, and per query row and value lane the running weighted sum. One sub-step folds 512 keys
  into these three; a grid point folds two sub-steps into each head, and where the key block is the query block the keys
  after the query are masked and the quotient of each head's own half of the lanes is the result.
-/

@[expose] public section

set_option maxRecDepth 16384

noncomputable section

namespace Cert.KernelIdeal.Flash

open Cert.KernelIdeal Cert.KernelIdeal.Gen
open Idealize.ShloMosaic Idealize.ShloMosaic.Tactic
open Idealize.ShloMosaic.TcCoe

variable {F : FTy → Type} [FloatOps F]

/-- The scores of 1024 queries against 512 keys of one head. -/
def scores (q : Vec F S1x1024x128 .bf16) (k : Vec F S1x512x128 .bf16) : FVec F S1024x512 .f32 :=
  matmul dot_S1024x128_S512x128_S1024x512_1_1_0_0_n_n none (shapeCast S1024x128 q shapeCasts_S1x1024x128_S1024x128)
    (shapeCast S512x128 k shapeCasts_S1x512x128_S512x128) (constant S1024x512 .f32 0x00000000#32)

/-- The scores with −∞ at every key after its query, the keys starting `d` after the queries. -/
def masked (d : BitVec 32) (s : FVec F S1024x512 .f32) : FVec F S1024x512 .f32 :=
  select (cmpi .sle (addi (iota .tc S1024x512 32 [1] iota_S1024x512_d1_w32) (broadcast S1024x512 d)) (iota .tc S1024x512 32 [0] iota_S1024x512_d0_w32)) s
    (broadcast S1024x512 (Scalar.ofBits (F := F) .f32 0xFF800000#32))

/-- What is kept of one head: running maximum, normaliser, weighted sum. -/
structure Head (F : FTy → Type) [FloatOps F] where
  /-- the running maximum -/
  m : Vec F S1x1024x128 .f32
  /-- the running normaliser -/
  l : Vec F S1x1024x128 .f32
  /-- the running weighted sum of the values -/
  a : Vec F S1x1024x128 .f32

/-- Nothing folded in yet. -/
def Head.reset : Head F :=
  ⟨broadcast S1x1024x128 (Scalar.ofBits .f32 0xFF800000#32), broadcast S1x1024x128 (Scalar.ofBits .f32 0x00000000#32),
    broadcast S1x1024x128 (Scalar.ofBits .f32 0x00000000#32)⟩

/-- The maximum after the scores `s`. -/
def newMax (s : FVec F S1024x512 .f32) (m : Vec F S1x1024x128 .f32) : FVec F S1024x128 .f32 :=
  maximumf (shapeCast S1024x128 m shapeCasts_S1x1024x128_S1024x128)
    (broadcastTo S1024x128 (shapeCast S1024x1 (multiReduction .maximumf [1] S1024 s 0xFF800000#32 reduces_S1024x512_S1024 (.inl rfl) rfl) shapeCasts_S1024_S1024x1)
      broadcasts_S1024x1_S1024x128)

/-- The factor that moves earlier sums to the new maximum. -/
def decay (s : FVec F S1024x512 .f32) (m : Vec F S1x1024x128 .f32) : FVec F S1024x128 .f32 :=
  exp (subf (shapeCast S1024x128 m shapeCasts_S1x1024x128_S1024x128) (newMax s m))

/-- The weights of the 512 keys, relative to the new maximum. -/
def weights (s : FVec F S1024x512 .f32) (m : Vec F S1x1024x128 .f32) : FVec F S1024x512 .f32 :=
  exp (subf s (broadcastTo S1024x512 (extractStridedSlice S1024x1 ![0, 0] (newMax s m) slices_S1024x128_o0_0_S1024x1) broadcasts_S1024x1_S1024x512))

/-- One sub-step: 512 keys with scores `s` and values `v` folded in. -/
def Head.fold (s : FVec F S1024x512 .f32) (v : Vec F S1x512x128 .bf16) (H : Head F) : Head F :=
  ⟨shapeCast S1x1024x128 (newMax s H.m) shapeCasts_S1024x128_S1x1024x128,
   shapeCast S1x1024x128
    (addf (mulf (decay s H.m) (shapeCast S1024x128 H.l shapeCasts_S1x1024x128_S1024x128))
      (broadcastTo S1024x128 (shapeCast S1024x1 (multiReduction .add [1] S1024 (weights s H.m) 0x00000000#32 reduces_S1024x512_S1024 (.inl rfl) rfl) shapeCasts_S1024_S1024x1)
        broadcasts_S1024x1_S1024x128)) shapeCasts_S1024x128_S1x1024x128,
   shapeCast S1x1024x128
    (addf (mulf (shapeCast S1024x128 H.a shapeCasts_S1x1024x128_S1024x128) (decay s H.m))
      (matmul dot_S1024x512_S512x128_S1024x128_1_0_0_1_n_n none (truncf .bf16 (weights s H.m) bitsLt_bf16_f32)
        (shapeCast S512x128 v shapeCasts_S1x512x128_S512x128) (constant S1024x128 .f32 0x00000000#32))) shapeCasts_S1024x128_S1x1024x128⟩

/-- An unmasked grid point of one head: both halves of the key block. -/
def Head.below (q : Vec F S1x1024x128 .bf16) (k k' v v' : Vec F S1x512x128 .bf16) (H : Head F) : Head F :=
  (H.fold (scores q k) v).fold (scores q k') v'

/-- A masked grid point of one head: both halves of the key block. -/
def Head.last (q : Vec F S1x1024x128 .bf16) (k k' v v' : Vec F S1x512x128 .bf16) (H : Head F) : Head F :=
  (H.fold (masked 0#32 (scores q k)) v).fold (masked 512#32 (scores q k')) v'

/-- The two heads' quotients, the first head's in lanes below 64 and the second's above. -/
def result (H H' : Head F) : FVec F S1x1024x128 .bf16 :=
  shapeCast S1x1024x128
    (truncf .bf16
      (select (cmpi .slt (iota .tc S1024x128 32 [1] iota_S1024x128_d1_w32) (broadcast S1024x128 64#32))
        (divf (shapeCast S1024x128 H.a shapeCasts_S1x1024x128_S1024x128) (shapeCast S1024x128 H.l shapeCasts_S1x1024x128_S1024x128))
        (divf (shapeCast S1024x128 H'.a shapeCasts_S1x1024x128_S1024x128) (shapeCast S1024x128 H'.l shapeCasts_S1x1024x128_S1024x128)))
      bitsLt_bf16_f32) shapeCasts_S1024x128_S1x1024x128

section Blocks

variable (x0 x1 : S1x1024x256.Idx → Elt F .bf16) (x2 : S1x1024x128.Idx → Elt F .bf16)

/-- The first head's queries in the query block. -/
abbrev q0 : Vec F S1x1024x128 .bf16 := View.ld (Val := Elt F) x0 (Rect.unit ![0, 0, 0] S1x1024x128.size inb_S1x1024x256_S1x1024x128_0_0_0)
/-- The second head's queries in the query block. -/
abbrev q1 : Vec F S1x1024x128 .bf16 := View.ld (Val := Elt F) x0 (Rect.unit ![0, 0, 128] S1x1024x128.size inb_S1x1024x256_S1x1024x128_0_0_128)
/-- The first head's keys, first half. -/
abbrev k00 : Vec F S1x512x128 .bf16 := View.ld (Val := Elt F) x1 (Rect.unit ![0, 0, 0] S1x512x128.size inb_S1x1024x256_S1x512x128_0_0_0)
/-- The first head's keys, second half. -/
abbrev k01 : Vec F S1x512x128 .bf16 := View.ld (Val := Elt F) x1 (Rect.unit ![0, 512, 0] S1x512x128.size inb_S1x1024x256_S1x512x128_0_512_0)
/-- The second head's keys, first half. -/
abbrev k10 : Vec F S1x512x128 .bf16 := View.ld (Val := Elt F) x1 (Rect.unit ![0, 0, 128] S1x512x128.size inb_S1x1024x256_S1x512x128_0_0_128)
/-- The second head's keys, second half. -/
abbrev k11 : Vec F S1x512x128 .bf16 := View.ld (Val := Elt F) x1 (Rect.unit ![0, 512, 128] S1x512x128.size inb_S1x1024x256_S1x512x128_0_512_128)
/-- The values of the two heads, first half of the keys. -/
abbrev v0 : Vec F S1x512x128 .bf16 := View.ld (Val := Elt F) x2 (Rect.unit ![0, 0, 0] S1x512x128.size inb_S1x1024x128_S1x512x128_0_0_0)
/-- The values of the two heads, second half of the keys. -/
abbrev v1 : Vec F S1x512x128 .bf16 := View.ld (Val := Elt F) x2 (Rect.unit ![0, 512, 0] S1x512x128.size inb_S1x1024x128_S1x512x128_0_512_0)

end Blocks

/-- What the scratch arrays hold: the two heads. -/
abbrev St (F : FTy → Type) [FloatOps F] := Head F × Head F

/-- Both heads reset. -/
def St.reset : St F := (Head.reset, Head.reset)

/-- An unmasked grid point. -/
def St.below (x0 x1 : S1x1024x256.Idx → Elt F .bf16) (x2 : S1x1024x128.Idx → Elt F .bf16) (s : St F) : St F :=
  (s.1.below (q0 x0) (k00 x1) (k01 x1) (v0 x2) (v1 x2), s.2.below (q1 x0) (k10 x1) (k11 x1) (v0 x2) (v1 x2))

/-- A masked grid point. -/
def St.last (x0 x1 : S1x1024x256.Idx → Elt F .bf16) (x2 : S1x1024x128.Idx → Elt F .bf16) (s : St F) : St F :=
  (s.1.last (q0 x0) (k00 x1) (k01 x1) (v0 x2) (v1 x2), s.2.last (q1 x0) (k10 x1) (k11 x1) (v0 x2) (v1 x2))

/-- Two heads' blocks as one array, the head its first axis. -/
def join (u w : Vec F S1x1024x128 .f32) : S2x1024x128.Idx → Elt F .f32 :=
  VecWindow.put (VecWindow.put (fun _ => Scalar.ofBits (F := F) .f32 0#32) ![0, 0, 0] S1x1024x128.size u) ![1, 0, 0] S1x1024x128.size w

theorem join_one (u w : Vec F S1x1024x128 .f32) (inb) :
    View.ld (Val := Elt F) (e' := .f32) (join u w) (Rect.unit (s := S2x1024x128) ![1, 0, 0] ![1, 1024, 128] inb) = w :=
  VecWindow.window_put_same _ _ _ inb w

theorem join_zero (u w : Vec F S1x1024x128 .f32) (inb) :
    View.ld (Val := Elt F) (e' := .f32) (join u w) (Rect.unit (s := S2x1024x128) ![0, 0, 0] ![1, 1024, 128] inb) = u :=
  (VecWindow.window_put_of_disjoint _ _ _ _ _ inb w 0 (Or.inl (show (0:ℕ) + 1 ≤ 1 from le_refl 1))).trans (VecWindow.window_put_same _ _ _ inb u)

/-- A reset maximum, loaded. -/
theorem ld_pay1 (r : Rect S2x1024x128) : View.ld (Val := Elt F) (e' := .f32) k0_pay1 r = fun _ => Scalar.ofBits (F := F) .f32 0xFF800000#32 := rfl

/-- A reset normaliser, loaded. -/
theorem ld_pay2 (r : Rect S2x1024x128) : View.ld (Val := Elt F) (e' := .f32) k0_pay2 r = fun _ => Scalar.ofBits (F := F) .f32 0x00000000#32 := rfl

/-- A reset weighted sum, loaded. -/
theorem ld_pay3 (r : Rect S2x1024x128) : View.ld (Val := Elt F) (e' := .f32) k0_pay3 r = fun _ => Scalar.ofBits (F := F) .f32 0x00000000#32 := rfl

/-- Two puts, one for each head, leave nothing of what was there. -/
theorem put_put_join (x : S2x1024x128.Idx → Elt F .f32) (u w : Vec F S1x1024x128 .f32) :
    VecWindow.put (VecWindow.put x ![0, 0, 0] S1x1024x128.size u) ![1, 0, 0] S1x1024x128.size w = join u w := by
  funext y
  unfold join VecWindow.put
  by_cases h1 : ∀ a, (![1, 0, 0] : Fin 3 → ℕ) a ≤ (y a).val ∧ (y a).val < (![1, 0, 0] : Fin 3 → ℕ) a + S1x1024x128.size a
  · rw [dif_pos h1, dif_pos h1]
  · rw [dif_neg h1, dif_neg h1]
    by_cases h0 : ∀ a, (![0, 0, 0] : Fin 3 → ℕ) a ≤ (y a).val ∧ (y a).val < (![0, 0, 0] : Fin 3 → ℕ) a + S1x1024x128.size a
    · rw [dif_pos h0, dif_pos h0]
    · exfalso
      have e0 : (y 0).val < 2 := (y 0).isLt
      have e1 : (y 1).val < 1024 := (y 1).isLt
      have e2 : (y 2).val < 128 := (y 2).isLt
      by_cases hy : (y 0).val = 0
      · exact h0 fun a => by
          match a with
          | ⟨0, _⟩ => exact ⟨Nat.zero_le _, (by omega : (y 0).val < 0 + 1)⟩
          | ⟨1, _⟩ => exact ⟨Nat.zero_le _, (by omega : (y 1).val < 0 + 1024)⟩
          | ⟨2, _⟩ => exact ⟨Nat.zero_le _, (by omega : (y 2).val < 0 + 128)⟩
      · exact h1 fun a => by
          match a with
          | ⟨0, _⟩ => exact ⟨(by omega : 1 ≤ (y 0).val), (by omega : (y 0).val < 1 + 1)⟩
          | ⟨1, _⟩ => exact ⟨Nat.zero_le _, (by omega : (y 1).val < 0 + 1024)⟩
          | ⟨2, _⟩ => exact ⟨Nat.zero_le _, (by omega : (y 2).val < 0 + 128)⟩

/-- Stores of both heads, the first head's first, leave the two payloads. -/
theorem writes_join {M : Memref sig .tc .vmem S2x1024x128 .f32} (hM : M.IsWhole) (f : M.view.ty.Contents (Elt F)) (u w w' : Vec F S1x1024x128 .f32) (inb inb')
    (L : List (View.Piece (Elt F) S2x1024x128 .f32)) :
    M.view.writes (Elt F) f (⟨Rect.unit ![1, 0, 0] S1x1024x128.size inb, w⟩ :: ⟨Rect.unit ![1, 0, 0] S1x1024x128.size inb, w'⟩
      :: ⟨Rect.unit ![0, 0, 0] S1x1024x128.size inb', u⟩ :: L) = M.view.rep (join u w) := by
  refine (hM.eq_unread ?_).trans (hM.eq_unread (View.read_rep _ _)).symm
  rw [View.read_writes_cons_put _ _ inb w _ rfl, View.read_writes_cons_put _ _ inb w' _ rfl, View.read_writes_cons_put _ _ inb' u _ rfl,
    VecWindow.put_put_same, put_put_join]

section Contents

variable (c : Dev nD) (i : grid0.Coords)
  (arg5 : Memref sig .tc .vmem S1x1024x256 .bf16) (harg5 : arg5.IsWhole) (arg6 : Memref sig .tc .vmem S1x1024x256 .bf16) (harg6 : arg6.IsWhole)
  (arg7 : Memref sig .tc .vmem S1x1024x128 .bf16) (harg7 : arg7.IsWhole) (arg8 : Memref sig .tc .vmem S1x1024x128 .bf16) (harg8 : arg8.IsWhole)
  (T0 T1 : S136.Idx → Elt F .i32) (x0 x1 : S1x1024x256.Idx → Elt F .bf16) (x2 : S1x1024x128.Idx → Elt F .bf16)

/-- The running maxima of both heads, as the first scratch array. -/
abbrev bufM (s : St F) : Buf (Elt F) ((c : Thread nD τ).loc cc0_scratch0) := scM0_0.view.rep (join s.1.m s.2.m)
/-- The normalisers of both heads, as the second scratch array. -/
abbrev bufL (s : St F) : Buf (Elt F) ((c : Thread nD τ).loc cc0_scratch1) := scM0_1.view.rep (join s.1.l s.2.l)
/-- The weighted sums of both heads, as the third scratch array. -/
abbrev bufA (s : St F) : Buf (Elt F) ((c : Thread nD τ).loc cc0_scratch2) := scM0_2.view.rep (join s.1.a s.2.a)

/-- What the body leaves in the scratch arrays between the first and the last key block. -/
theorem runMiddle_scratch (hc0 : ¬Start (wordAt tbM0_1 i T1)) (hc1 : Below (wordAt tbM0_0 i T0) (wordAt tbM0_1 i T1)) (hc2 : ¬Last (wordAt tbM0_0 i T0) (wordAt tbM0_1 i T1)) (s : St F) :
    (runMiddle c i arg5 harg5 arg6 harg6 arg7 harg7 arg8 harg8 T0 T1 x0 x1 x2 hc0 hc1 hc2 (bufM c s) (bufL c s) (bufA c s)).1 = bufM c (St.below x0 x1 x2 s)
      ∧ (runMiddle c i arg5 harg5 arg6 harg6 arg7 harg7 arg8 harg8 T0 T1 x0 x1 x2 hc0 hc1 hc2 (bufM c s) (bufL c s) (bufA c s)).2.1 = bufL c (St.below x0 x1 x2 s)
      ∧ (runMiddle c i arg5 harg5 arg6 harg6 arg7 harg7 arg8 harg8 T0 T1 x0 x1 x2 hc0 hc1 hc2 (bufM c s) (bufL c s) (bufA c s)).2.2.1 = bufA c (St.below x0 x1 x2 s) := by
  unfold runMiddle
  dsimp only
  sl_unfold_words
  simp (disch := decide) only [↓ View.readCov_skip, ↓ View.readCov_cons_toLoadRect, ↓ View.readCov_fill]
  simp only [View.readAt_eq_ld, View.read_rep, join_zero, join_one, ld_pay1, ld_pay2, ld_pay3]
  refine ⟨(writes_join (M := scM0_0) (Memref.isWhole_whole _) _ _ _ _ _ _ _).trans ?_,
    (writes_join (M := scM0_1) (Memref.isWhole_whole _) _ _ _ _ _ _ _).trans ?_, (writes_join (M := scM0_2) (Memref.isWhole_whole _) _ _ _ _ _ _ _).trans ?_⟩
  all_goals exact congrArg _ (congrArg₂ _ rfl rfl)

/-- What the body leaves in the scratch arrays at the last key block. -/
theorem runLast_scratch (hc0 : ¬Start (wordAt tbM0_1 i T1)) (hc1 : ¬Below (wordAt tbM0_0 i T0) (wordAt tbM0_1 i T1)) (hc2 : Last (wordAt tbM0_0 i T0) (wordAt tbM0_1 i T1)) (s : St F) :
    (runLast c i arg5 harg5 arg6 harg6 arg7 harg7 arg8 harg8 T0 T1 x0 x1 x2 hc0 hc1 hc2 (bufM c s) (bufL c s) (bufA c s)).2.1 = bufM c (St.last x0 x1 x2 s)
      ∧ (runLast c i arg5 harg5 arg6 harg6 arg7 harg7 arg8 harg8 T0 T1 x0 x1 x2 hc0 hc1 hc2 (bufM c s) (bufL c s) (bufA c s)).2.2.1 = bufL c (St.last x0 x1 x2 s)
      ∧ (runLast c i arg5 harg5 arg6 harg6 arg7 harg7 arg8 harg8 T0 T1 x0 x1 x2 hc0 hc1 hc2 (bufM c s) (bufL c s) (bufA c s)).2.2.2.1 = bufA c (St.last x0 x1 x2 s) := by
  unfold runLast
  dsimp only
  sl_unfold_words
  simp (disch := decide) only [↓ View.readCov_skip, ↓ View.readCov_cons_toLoadRect, ↓ View.readCov_fill]
  simp only [View.readAt_eq_ld, View.read_rep, join_zero, join_one, ld_pay1, ld_pay2, ld_pay3]
  refine ⟨(writes_join (M := scM0_0) (Memref.isWhole_whole _) _ _ _ _ _ _ _).trans ?_,
    (writes_join (M := scM0_1) (Memref.isWhole_whole _) _ _ _ _ _ _ _).trans ?_, (writes_join (M := scM0_2) (Memref.isWhole_whole _) _ _ _ _ _ _ _).trans ?_⟩
  all_goals exact congrArg _ (congrArg₂ _ rfl rfl)

/-- What the body stores at the last key block. -/
theorem runLast_out (hc0 : ¬Start (wordAt tbM0_1 i T1)) (hc1 : ¬Below (wordAt tbM0_0 i T0) (wordAt tbM0_1 i T1)) (hc2 : Last (wordAt tbM0_0 i T0) (wordAt tbM0_1 i T1)) (s : St F) :
    (runLast c i arg5 harg5 arg6 harg6 arg7 harg7 arg8 harg8 T0 T1 x0 x1 x2 hc0 hc1 hc2 (bufM c s) (bufL c s) (bufA c s)).1 = [⟨Rect.unit ![0, 0, 0] S1x1024x128.size inb_S1x1024x128_S1x1024x128_0_0_0, result (St.last x0 x1 x2 s).1 (St.last x0 x1 x2 s).2⟩] := by
  unfold runLast
  dsimp only
  sl_unfold_words
  simp (disch := decide) only [↓ View.readCov_skip, ↓ View.readCov_cons_toLoadRect, ↓ View.readCov_fill]
  simp only [View.readAt_eq_ld, View.read_rep, join_zero, join_one, ld_pay1, ld_pay2, ld_pay3]
  exact congrArg (fun w => [Sigma.mk (β := fun r : Rect S1x1024x128 => r.shape.Idx → Elt F .bf16) (Rect.unit ![0, 0, 0] S1x1024x128.size inb_S1x1024x128_S1x1024x128_0_0_0) w]) rfl

/-- What the body leaves in the scratch arrays at the first key block. -/
theorem runFirst_scratch (hc0 : Start (wordAt tbM0_1 i T1)) (hc1 : Below (wordAt tbM0_0 i T0) (wordAt tbM0_1 i T1)) (hc2 : ¬Last (wordAt tbM0_0 i T0) (wordAt tbM0_1 i T1)) :
    (runFirst c i arg5 harg5 arg6 harg6 arg7 harg7 arg8 harg8 T0 T1 x0 x1 x2 hc0 hc1 hc2).1 = bufM c (St.below x0 x1 x2 St.reset)
      ∧ (runFirst c i arg5 harg5 arg6 harg6 arg7 harg7 arg8 harg8 T0 T1 x0 x1 x2 hc0 hc1 hc2).2.1 = bufL c (St.below x0 x1 x2 St.reset)
      ∧ (runFirst c i arg5 harg5 arg6 harg6 arg7 harg7 arg8 harg8 T0 T1 x0 x1 x2 hc0 hc1 hc2).2.2.1 = bufA c (St.below x0 x1 x2 St.reset) := by
  unfold runFirst
  dsimp only
  sl_unfold_words
  simp (disch := decide) only [↓ View.readCov_skip, ↓ View.readCov_cons_toLoadRect, ↓ View.readCov_fill]
  simp only [View.readAt_eq_ld, View.read_rep, join_zero, join_one, ld_pay1, ld_pay2, ld_pay3]
  refine ⟨(writes_join (M := scM0_0) (Memref.isWhole_whole _) _ _ _ _ _ _ _).trans ?_,
    (writes_join (M := scM0_1) (Memref.isWhole_whole _) _ _ _ _ _ _ _).trans ?_, (writes_join (M := scM0_2) (Memref.isWhole_whole _) _ _ _ _ _ _ _).trans ?_⟩
  all_goals exact congrArg _ (congrArg₂ _ rfl rfl)

/-- What the body leaves in the scratch arrays at the only key block. -/
theorem runFirstLast_scratch (hc0 : Start (wordAt tbM0_1 i T1)) (hc1 : ¬Below (wordAt tbM0_0 i T0) (wordAt tbM0_1 i T1)) (hc2 : Last (wordAt tbM0_0 i T0) (wordAt tbM0_1 i T1)) :
    (runFirstLast c i arg5 harg5 arg6 harg6 arg7 harg7 arg8 harg8 T0 T1 x0 x1 x2 hc0 hc1 hc2).2.1 = bufM c (St.last x0 x1 x2 St.reset)
      ∧ (runFirstLast c i arg5 harg5 arg6 harg6 arg7 harg7 arg8 harg8 T0 T1 x0 x1 x2 hc0 hc1 hc2).2.2.1 = bufL c (St.last x0 x1 x2 St.reset)
      ∧ (runFirstLast c i arg5 harg5 arg6 harg6 arg7 harg7 arg8 harg8 T0 T1 x0 x1 x2 hc0 hc1 hc2).2.2.2.1 = bufA c (St.last x0 x1 x2 St.reset) := by
  unfold runFirstLast
  dsimp only
  sl_unfold_words
  simp (disch := decide) only [↓ View.readCov_skip, ↓ View.readCov_cons_toLoadRect, ↓ View.readCov_fill]
  simp only [View.readAt_eq_ld, View.read_rep, join_zero, join_one, ld_pay1, ld_pay2, ld_pay3]
  refine ⟨(writes_join (M := scM0_0) (Memref.isWhole_whole _) _ _ _ _ _ _ _).trans ?_,
    (writes_join (M := scM0_1) (Memref.isWhole_whole _) _ _ _ _ _ _ _).trans ?_, (writes_join (M := scM0_2) (Memref.isWhole_whole _) _ _ _ _ _ _ _).trans ?_⟩
  all_goals exact congrArg _ (congrArg₂ _ rfl rfl)

/-- What the body stores at the only key block. -/
theorem runFirstLast_out (hc0 : Start (wordAt tbM0_1 i T1)) (hc1 : ¬Below (wordAt tbM0_0 i T0) (wordAt tbM0_1 i T1)) (hc2 : Last (wordAt tbM0_0 i T0) (wordAt tbM0_1 i T1)) :
    (runFirstLast c i arg5 harg5 arg6 harg6 arg7 harg7 arg8 harg8 T0 T1 x0 x1 x2 hc0 hc1 hc2).1 = [⟨Rect.unit ![0, 0, 0] S1x1024x128.size inb_S1x1024x128_S1x1024x128_0_0_0, result (St.last x0 x1 x2 St.reset).1 (St.last x0 x1 x2 St.reset).2⟩] := by
  unfold runFirstLast
  dsimp only
  sl_unfold_words
  simp (disch := decide) only [↓ View.readCov_skip, ↓ View.readCov_cons_toLoadRect, ↓ View.readCov_fill]
  simp only [View.readAt_eq_ld, View.read_rep, join_zero, join_one, ld_pay1, ld_pay2, ld_pay3]
  exact congrArg (fun w => [Sigma.mk (β := fun r : Rect S1x1024x128 => r.shape.Idx → Elt F .bf16) (Rect.unit ![0, 0, 0] S1x1024x128.size inb_S1x1024x128_S1x1024x128_0_0_0) w]) rfl

end Contents

end Cert.KernelIdeal.Flash
-- ==== Proof.Tables.lean ====
module

public import proofs.«01_k».proof.Proof.Runs
public import Idealize.ShloMosaic.PureOps.Ideal

/-!
  The two tables and what follows from them.

  The tables list the pairs (query block, key block) with the key block not after the query block, in order: 136 pairs of 16
  blocks. At these tables every block lies inside its array, and at every grid point the body's three tests, and whether its
  output is written back there, are the comparisons of the two words.
-/

@[expose] public section

set_option maxRecDepth 16384
set_option Elab.async false

noncomputable section

namespace Cert.KernelIdeal.Flash

open Cert.KernelIdeal Cert.KernelIdeal.Gen
open Idealize.ShloMosaic Idealize.ShloMosaic.Tactic
open Idealize.ShloMosaic.TcCoe
open Idealize.ShloMosaic.Pipeline (Dat Cfg Window)

/-- The table of query blocks. -/
abbrev tab0 : S136.Idx → BitVec 32 := fun i => lit0 (S136.rowMajor i)

/-- The table of key blocks. -/
abbrev tab1 : S136.Idx → BitVec 32 := fun i => lit1 (S136.rowMajor i)

section Generic

variable {F : FTy → Type} [FloatOps F]

set_option backward.proofsInPublic true in
/-- The two tables, as the call takes them. -/
def tabs : pre0.Contents (Elt F) := fun | ⟨0, _⟩ => tab0 | ⟨1, _⟩ => tab1 | ⟨_ + 2, h⟩ => absurd h (by simp)

end Generic

theorem inb_0 : ∀ i : grid0.Coords, ∀ a, (cc0_transform_0 k0_off1_inb numel1_S1 (tabs (F := Ideal)) i a + 1) * S1x1024x256.size a ≤ S2x16384x512.size a := by
  decide +kernel
theorem inb_1 : ∀ i : grid0.Coords, ∀ a, (cc0_transform_1 k0_off1_inb numel1_S1 (tabs (F := Ideal)) i a + 1) * S1x1024x256.size a ≤ S2x16384x512.size a := by
  decide +kernel
theorem inb_2 : ∀ i : grid0.Coords, ∀ a, (cc0_transform_2 k0_off1_inb numel1_S1 (tabs (F := Ideal)) i a + 1) * S1x1024x128.size a ≤ S2x16384x256.size a := by
  decide +kernel
theorem inb_3 : ∀ i : grid0.Coords, ∀ a, (cc0_transform_3 k0_off1_inb numel1_S1 (tabs (F := Ideal)) i a + 1) * S1x1024x128.size a ≤ S2x16384x256.size a := by
  decide +kernel

/-- Every window's blocks at the tables lie inside its array, whole words each. -/
theorem ok_ideal : ok0 (F := Ideal) tabs :=
  ⟨fun i => ⟨inb_0 i, .inr (Affine.block_words_dvd (s := S2x16384x512) (p := EltTy.packing .bf16) (by decide) (by decide))⟩,
   fun i => ⟨inb_1 i, .inr (Affine.block_words_dvd (s := S2x16384x512) (p := EltTy.packing .bf16) (by decide) (by decide))⟩,
   fun i => ⟨inb_2 i, .inr (Affine.block_words_dvd (s := S2x16384x256) (p := EltTy.packing .bf16) (by decide) (by decide))⟩,
   fun i => ⟨inb_3 i, .inr (Affine.block_words_dvd (s := S2x16384x256) (p := EltTy.packing .bf16) (by decide) (by decide))⟩⟩

section Generic

variable {F : FTy → Type} [FloatOps F]

theorem ok_eq : ok0 (F := Ideal) tabs = ok0 (F := F) tabs := by sl_kernel_rfl

/-- The same over any element values: the tables and the side condition speak of words alone. -/
theorem ok_tabs : ok0 (F := F) tabs := ok_eq.mp ok_ideal

/-- The tables as admissible contents, and the pipeline at them. -/
def adm : (pcfg0 (F := F)).Adm := ⟨tabs, ok_tabs⟩

variable (F)

abbrev cfgA : Pipeline.Cfg sig Λ₀ := cfg0 (F := F) adm

/-- The grid coordinates of a point. -/
abbrev crd (t : Fin (cfgA F).N) : (cfgA F).grid.Coords := (cfgA F).grid.coords t

/-- A point's query block. -/
abbrev qi (t : Fin (cfgA F).N) : BitVec 32 := wordAt (F := F) tbM0_0 (crd F t) tab0

/-- A point's key block. -/
abbrev ki (t : Fin (cfgA F).N) : BitVec 32 := wordAt (F := F) tbM0_1 (crd F t) tab1

/-- What a point's two words decide: the body's tests, and the output's schedule. -/
abbrev FactsAt (t : Fin (cfgA F).N) : Prop :=
  (t.val = 0 → Start (ki F t)) ∧ (Below (qi F t) (ki F t) ↔ ¬ Last (qi F t) (ki F t))
    ∧ (cfgA F).idle (3 : Fin 4) ((cfgA F).grid.coords t) = decide (Below (qi F t) (ki F t))
    ∧ ((cfgA F).win (3 : Fin 4)).flush t = decide (Last (qi F t) (ki F t))

end Generic

/-- Decided at the points of the grid. -/
theorem facts_ideal : ∀ t : Fin (cfgA Ideal).N, FactsAt Ideal t := by decide +kernel

/-- The same statement over any element values. -/
theorem facts_eq {F : FTy → Type} [FloatOps F] : (∀ t : Fin (cfgA Ideal).N, FactsAt Ideal t) = (∀ t : Fin (cfgA F).N, FactsAt F t) := by sl_kernel_rfl

theorem facts {F : FTy → Type} [FloatOps F] (t : Fin (cfgA F).N) : FactsAt F t := facts_eq.mp facts_ideal t

end Cert.KernelIdeal.Flash
-- ==== Proof.Frame.lean ====
module

public import proofs.«01_k».proof.Proof.Step
public import proofs.«01_k».proof.Proof.Tables
public import Idealize.ShloMosaic.Lib.Pipeline.Frame
public import Idealize.ShloMosaic.Lib.Claim
public import Idealize.ShloMosaic.Adequacy
public import Idealize.ShloMosaic.Init

/-!
  The whole run of the flash attention.

  The state of the two heads before each grid point is a recursion over the points: reset where the key block is the first
  one, then one unmasked or masked step. The scratch arrays hold that state before every point but the first, and the run ends
  with the output array at the blocks that the masked points left and with every argument array unchanged.
-/

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- The buffers when the pipeline starts: after the host's operations. -/
abbrev V (c : Dev nD) (b : Ref sig .tc) : Buf (Elt F) ((c.tc : Thread nD τ).loc b) := StableHlo.after hostOps0 (fun b => m (c, b)) b

abbrev ms0_0 (t : Fin (cfgA F).N) : Memref sig .tc .vmem S1x1024x256 .bf16 := spec0_0.stage ((cfgA F).slots t (0 : Fin 4))
abbrev hs0_0 (t : Fin (cfgA F).N) : (ms0_0 t).IsWhole := hstage0_0 (((cfgA F).slots t (0 : Fin 4)).cast nbuf0_0)
abbrev ms0_1 (t : Fin (cfgA F).N) : Memref sig .tc .vmem S1x1024x256 .bf16 := spec0_1.stage ((cfgA F).slots t (1 : Fin 4))
abbrev hs0_1 (t : Fin (cfgA F).N) : (ms0_1 t).IsWhole := hstage0_1 (((cfgA F).slots t (1 : Fin 4)).cast nbuf0_1)
abbrev ms0_2 (t : Fin (cfgA F).N) : Memref sig .tc .vmem S1x1024x128 .bf16 := spec0_2.stage ((cfgA F).slots t (2 : Fin 4))
abbrev hs0_2 (t : Fin (cfgA F).N) : (ms0_2 t).IsWhole := hstage0_2 (((cfgA F).slots t (2 : Fin 4)).cast nbuf0_2)
abbrev ms0_3 (t : Fin (cfgA F).N) : Memref sig .tc .vmem S1x1024x128 .bf16 := spec0_3.stage ((cfgA F).slots t (3 : Fin 4))
abbrev hs0_3 (t : Fin (cfgA F).N) : (ms0_3 t).IsWhole := hstage0_3 (((cfgA F).slots t (3 : Fin 4)).cast nbuf0_3)

/-- The block of window `w`'s array at a point. -/
def iblk (c : Dev nD) (w : Fin (cfgA F).W) (t : Fin (cfgA F).N) : (((cfgA F).win w).xblock (crd F t)).Idx → Elt F ((cfgA F).win w).elt :=
  (((cfgA F).win w).blk t).view.read (Elt F) (V m c (Pipeline.arrRef (cfgA F).spec w))

/-- A point's query block. -/
abbrev xq (c : Dev nD) (t : Fin (cfgA F).N) : S1x1024x256.Idx → Elt F .bf16 := iblk m c (0 : Fin 4) t
/-- A point's key block. -/
abbrev xk (c : Dev nD) (t : Fin (cfgA F).N) : S1x1024x256.Idx → Elt F .bf16 := iblk m c (1 : Fin 4) t
/-- A point's value block. -/
abbrev xv (c : Dev nD) (t : Fin (cfgA F).N) : S1x1024x128.Idx → Elt F .bf16 := iblk m c (2 : Fin 4) t

open Classical in
/-- One point's step of the two heads. -/
def next (c : Dev nD) (t : Fin (cfgA F).N) (s : St F) : St F :=
  let s₀ := if Start (ki F t) then St.reset else s
  if Below (qi F t) (ki F t) then s₀.below (xq m c t) (xk m c t) (xv m c t) else s₀.last (xq m c t) (xk m c t) (xv m c t)

/-- The two heads before point `n`. -/
def stAt (c : Dev nD) : ℕ → St F
  | 0 => St.reset
  | n + 1 => if h : n < (cfgA F).N then next m c ⟨n, h⟩ (stAt c n) else stAt c n

theorem stAt_succ (c : Dev nD) (t : Fin (cfgA F).N) : stAt m c (t.val + 1) = next m c t (stAt m c t.val) := by
  rw [stAt, dif_pos t.isLt]

/-- The two heads after a point. -/
abbrev aft (c : Dev nD) (t : Fin (cfgA F).N) : St F := stAt m c (t.val + 1)

/-- The scratch arrays at the heads before point `n`, once a point has run; the tables' halves; the generator register. -/
def Phi (c : Dev nD) (n : ℕ) : sProp 𝕄 :=
  iprop((∃ x y z, ⌜n ≠ 0 → x = bufM c (stAt m c n) ∧ y = bufL c (stAt m c n) ∧ z = bufA c (stAt m c n)⌝ ∗ Scratch c x y z)
    ∗ ((tbM0_0.view.loc (c : Thread nD τ) ↦{fullShare.right} (tab0 : S136.Idx → Elt F .i32))
      ∗ (tbM0_1.view.loc (c : Thread nD τ) ↦{fullShare.right} (tab1 : S136.Idx → Elt F .i32)))
    ∗ ∃ r, prngReg c r)

/-- The proof data of the pipeline. -/
def dats (_ : Fin 1) (c : Dev nD) : Dat τ (Elt F) Unit ℕ (UR sig nD τ) ℕ (cfgA F) c where
  A w := V m c (Pipeline.arrRef (cfgA F).spec w)
  after w t := match w with
    | ⟨0, _⟩ => iblk m c (0 : Fin 4) t
    | ⟨1, _⟩ => iblk m c (1 : Fin 4) t
    | ⟨2, _⟩ => iblk m c (2 : Fin 4) t
    | ⟨3, _⟩ => result (aft m c t).1 (aft m c t).2
  Φ t := Phi m c t.val
  q _ := fullShare
  owed _ := 0

theorem dats_Φ (c : Dev nD) (t : Fin ((cfgA F).N + 1)) : (dats m 0 c).Φ t = Phi m c t.val := rfl
theorem owes_succ (c : Dev nD) (t : Fin (cfgA F).N) : (dats m 0 c).owesAt () t.succ = (dats m 0 c).owesAt () t.castSucc := rfl
theorem after0_0 (c : Dev nD) (t : Fin (cfgA F).N) : (dats m 0 c).after (0 : Fin 4) t = iblk m c (0 : Fin 4) t := rfl
theorem after0_1 (c : Dev nD) (t : Fin (cfgA F).N) : (dats m 0 c).after (1 : Fin 4) t = iblk m c (1 : Fin 4) t := rfl
theorem after0_2 (c : Dev nD) (t : Fin (cfgA F).N) : (dats m 0 c).after (2 : Fin 4) t = iblk m c (2 : Fin 4) t := rfl
theorem after0_3 (c : Dev nD) (t : Fin (cfgA F).N) : (dats m 0 c).after (3 : Fin 4) t = result (aft m c t).1 (aft m c t).2 := rfl

theorem before0_0 (c : Dev nD) (t : Fin (cfgA F).N) (d) : (dats m 0 c).before (0 : Fin 4) t d = iblk m c (0 : Fin 4) t :=
  ((dats m 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA F).N) (d) : (dats m 0 c).before (1 : Fin 4) t d = iblk m c (1 : Fin 4) t :=
  ((dats m 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA F).N) (d) : (dats m 0 c).before (2 : Fin 4) t d = iblk m c (2 : Fin 4) t :=
  ((dats m 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Every point either stores its output block and writes it back, or does neither. -/
theorem flush_or_idle (t : Fin (cfgA F).N) : ((cfgA F).win (3 : Fin 4)).flush t = !(cfgA F).idle (3 : Fin 4) ((cfgA F).grid.coords t) := by
  obtain ⟨-, hb, hi, hf⟩ := facts t
  rw [hi, hf]
  by_cases h : Last (qi F t) (ki F t)
  · rw [decide_eq_true h, decide_eq_false fun h' => hb.mp h' h]; rfl
  · rw [decide_eq_false h, decide_eq_true (hb.mpr h)]; rfl

/-- The output's staging buffer never holds a block that is still to be written back. -/
theorem fresh_all : ∀ n, n ≤ (cfgA F).N → (cfgA F).fresh (3 : Fin 4) n = true
  | 0, _ => Pipeline.Cfg.fresh_zero _ _
  | n + 1, h => by
    rw [Pipeline.Cfg.fresh_succ _ _ n h, fresh_all n (Nat.le_of_lt h), flush_or_idle]
    cases (cfgA F).idle (3 : Fin 4) ((cfgA F).grid.coords ⟨n, h⟩) <;> rfl

theorem before0_3 (c : Dev nD) (t : Fin (cfgA F).N) (d) : (dats m 0 c).before (3 : Fin 4) t d = d := by
  rw [(dats m 0 c).before_out_traj (3 : Fin 4) rfl (fun _ _ => rfl)
    (fun t _ _ hf => absurd ((fresh_all t.val (Nat.le_of_lt t.isLt)).symm.trans hf) (by decide)) t.val t rfl d,
    if_pos (fresh_all t.val (Nat.le_of_lt t.isLt))]

/-- The body at point `t`, as the pipeline calls it. -/
abbrev bodyAt (t : Fin (cfgA F).N) : Prog (TpuEff nD τ sig (Elt F) Λ₀ .tc) PUnit :=
  cc0_mla_flash (crd F t) tbM0_0 (Memref.isWhole_whole _) tbM0_1 (Memref.isWhole_whole _) (ms0_0 t) (hs0_0 t) (ms0_1 t) (hs0_1 t) (ms0_2 t) (hs0_2 t)
    (ms0_3 t) (hs0_3 t) scM0_0 (Memref.isWhole_whole _) scM0_1 (Memref.isWhole_whole _) scM0_2 (Memref.isWhole_whole _)

/-- One unmasked point: from the scratch arrays before it to those after it, the output's buffer untouched. -/
theorem runs_below (c : Dev nD) (t : Fin (cfgA F).N) (hb : Below (qi F t) (ki F t)) (y : S1x1024x128.Idx → Elt F .bf16) (x0 x1 x2)
    (hx : t.val ≠ 0 → x0 = bufM c (stAt m c t.val) ∧ x1 = bufL c (stAt m c t.val) ∧ x2 = bufA c (stAt m c t.val)) :
    Runs c (crd F t) (ms0_0 t) (hs0_0 t) (ms0_1 t) (hs0_1 t) (ms0_2 t) (hs0_2 t) (ms0_3 t) (hs0_3 t) tab0 tab1 (xq m c t) (xk m c t) (xv m c t)
      (owns (c : Thread nD τ) (ms0_3 t) fullShare y) (owns (c : Thread nD τ) (ms0_3 t) fullShare y) x0 x1 x2
      (bufM c (aft m c t)) (bufL c (aft m c t)) (bufA c (aft m c t)) := by
  have hl : ¬Last (qi F t) (ki F t) := (facts t).2.1.mp hb
  unfold aft
  rw [stAt_succ, next, if_pos hb]
  by_cases h0 : Start (ki F t)
  · rw [if_pos h0]
    obtain ⟨e1, e2, e3⟩ := runFirst_scratch c (crd F t) (ms0_0 t) (hs0_0 t) (ms0_1 t) (hs0_1 t) (ms0_2 t) (hs0_2 t) (ms0_3 t) (hs0_3 t) tab0 tab1 (xq m c t) (xk m c t) (xv m c t) h0 hb hl
    rw [← e1, ← e2, ← e3]
    exact (runFirst c (crd F t) (ms0_0 t) (hs0_0 t) (ms0_1 t) (hs0_1 t) (ms0_2 t) (hs0_2 t) (ms0_3 t) (hs0_3 t) tab0 tab1 (xq m c t) (xk m c t) (xv m c t) h0 hb hl).2.2.2 y x0 x1 x2
  · rw [if_neg h0]
    obtain ⟨rfl, rfl, rfl⟩ := hx fun h => h0 ((facts t).1 h)
    obtain ⟨e1, e2, e3⟩ := runMiddle_scratch c (crd F t) (ms0_0 t) (hs0_0 t) (ms0_1 t) (hs0_1 t) (ms0_2 t) (hs0_2 t) (ms0_3 t) (hs0_3 t) tab0 tab1 (xq m c t) (xk m c t) (xv m c t) h0 hb hl (stAt m c t.val)
    rw [← e1, ← e2, ← e3]
    exact (runMiddle c (crd F t) (ms0_0 t) (hs0_0 t) (ms0_1 t) (hs0_1 t) (ms0_2 t) (hs0_2 t) (ms0_3 t) (hs0_3 t) tab0 tab1 (xq m c t) (xk m c t) (xv m c t) h0 hb hl _ _ _).2.2.2 y

/-- One masked point: the same, and the result stored. -/
theorem runs_last (c : Dev nD) (t : Fin (cfgA F).N) (hb : ¬Below (qi F t) (ki F t)) (x0 x1 x2)
    (hx : t.val ≠ 0 → x0 = bufM c (stAt m c t.val) ∧ x1 = bufL c (stAt m c t.val) ∧ x2 = bufA c (stAt m c t.val)) :
    Runs c (crd F t) (ms0_0 t) (hs0_0 t) (ms0_1 t) (hs0_1 t) (ms0_2 t) (hs0_2 t) (ms0_3 t) (hs0_3 t) tab0 tab1 (xq m c t) (xk m c t) (xv m c t)
      iprop(∃ d, owns (c : Thread nD τ) (ms0_3 t) fullShare d)
      iprop(∃ f, (ms0_3 t).view.loc (c : Thread nD τ) ↦[(ms0_3 t).view.set]{fullShare} (ms0_3 t).view.writes (Elt F) f
        [⟨Rect.unit ![0, 0, 0] S1x1024x128.size inb_S1x1024x128_S1x1024x128_0_0_0, result (aft m c t).1 (aft m c t).2⟩]) x0 x1 x2
      (bufM c (aft m c t)) (bufL c (aft m c t)) (bufA c (aft m c t)) := by
  have hl : Last (qi F t) (ki F t) := not_not.mp fun h => hb ((facts t).2.1.mpr h)
  unfold aft
  rw [stAt_succ, next, if_neg hb]
  by_cases h0 : Start (ki F t)
  · rw [if_pos h0]
    obtain ⟨e1, e2, e3⟩ := runFirstLast_scratch c (crd F t) (ms0_0 t) (hs0_0 t) (ms0_1 t) (hs0_1 t) (ms0_2 t) (hs0_2 t) (ms0_3 t) (hs0_3 t) tab0 tab1 (xq m c t) (xk m c t) (xv m c t) h0 hb hl
    rw [← e1, ← e2, ← e3, ← runFirstLast_out c (crd F t) (ms0_0 t) (hs0_0 t) (ms0_1 t) (hs0_1 t) (ms0_2 t) (hs0_2 t) (ms0_3 t) (hs0_3 t) tab0 tab1 (xq m c t) (xk m c t) (xv m c t) h0 hb hl]
    exact (runFirstLast c (crd F t) (ms0_0 t) (hs0_0 t) (ms0_1 t) (hs0_1 t) (ms0_2 t) (hs0_2 t) (ms0_3 t) (hs0_3 t) tab0 tab1 (xq m c t) (xk m c t) (xv m c t) h0 hb hl).2.2.2.2 x0 x1 x2
  · rw [if_neg h0]
    obtain ⟨rfl, rfl, rfl⟩ := hx fun h => h0 ((facts t).1 h)
    obtain ⟨e1, e2, e3⟩ := runLast_scratch c (crd F t) (ms0_0 t) (hs0_0 t) (ms0_1 t) (hs0_1 t) (ms0_2 t) (hs0_2 t) (ms0_3 t) (hs0_3 t) tab0 tab1 (xq m c t) (xk m c t) (xv m c t) h0 hb hl (stAt m c t.val)
    rw [← e1, ← e2, ← e3, ← runLast_out c (crd F t) (ms0_0 t) (hs0_0 t) (ms0_1 t) (hs0_1 t) (ms0_2 t) (hs0_2 t) (ms0_3 t) (hs0_3 t) tab0 tab1 (xq m c t) (xk m c t) (xv m c t) h0 hb hl (stAt m c t.val)]
    exact (runLast c (crd F t) (ms0_0 t) (hs0_0 t) (ms0_1 t) (hs0_1 t) (ms0_2 t) (hs0_2 t) (ms0_3 t) (hs0_3 t) tab0 tab1 (xq m c t) (xk m c t) (xv m c t) h0 hb hl _ _ _).2.2.2.2

/-- A put of the whole block leaves its payload. -/
theorem put_all (x w : S1x1024x128.Idx → Elt F .bf16) : VecWindow.put x ![0, 0, 0] S1x1024x128.size w = w := by
  funext y
  have e0 := (y 0).isLt
  have e1 := (y 1).isLt
  have e2 := (y 2).isLt
  unfold VecWindow.put
  rw [dif_pos fun a => ⟨by fin_cases a <;> exact Nat.zero_le _, by fin_cases a <;> simp <;> first | exact e1 | exact e2⟩]
  congr 1
  funext a
  exact Fin.ext (by fin_cases a <;> rfl)

set_option maxHeartbeats 4000000 in
/-- The body at any point. -/
theorem sound_body (c : Dev nD) (t : Fin (cfgA F).N) :
    iprop((dats m 0 c).Φ t.castSucc ∗ (dats m 0 c).owesAt () t.castSucc
        ∗ (∃ d, owns (c : Thread nD τ) (ms0_0 t) fullShare ((dats m 0 c).before (0 : Fin 4) t d))
        ∗ (∃ d, owns (c : Thread nD τ) (ms0_1 t) fullShare ((dats m 0 c).before (1 : Fin 4) t d))
        ∗ (∃ d, owns (c : Thread nD τ) (ms0_2 t) fullShare ((dats m 0 c).before (2 : Fin 4) t d))
        ∗ (∃ d, owns (c : Thread nD τ) (ms0_3 t) fullShare ((dats m 0 c).before (3 : Fin 4) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  obtain ⟨-, hbl, hi, -⟩ := facts t
  have hf := flush_or_idle t
  by_cases hb : Below (qi F t) (ki F t)
  · have i3 : (cfgA F).idle (3 : Fin 4) ((cfgA F).grid.coords t) = true := hi.trans (decide_eq_true hb)
    have f3 : ((cfgA F).win (3 : Fin 4)).flush t = false := hf.trans (by rw [i3]; rfl)
    rewrite [i3]
    simp only [before0_0, before0_1, before0_2, before0_3, after0_0, after0_1, after0_2, after0_3, f3]
    rewrite [dats_Φ, dats_Φ, Fin.val_castSucc, Fin.val_succ, owes_succ]
    unfold Phi
    iintro ⟨⟨⟨%x0, %x1, %x2, %hx, HS⟩, ⟨HT0, HT1⟩, Hg⟩, Ho, ⟨%d0, H0⟩, ⟨%d1, H1⟩, ⟨%d2, H2⟩, ⟨%d3, H3⟩⟩
    iapply (runs_below m c t hb d3 x0 x1 x2 hx _)
    isplitl [H0 H1 H2 HT0 HT1]
    · isplitl [H0]; · iapply rep_of_owns; iexact H0
      isplitl [H1]; · iapply rep_of_owns; iexact H1
      isplitl [H2]; · iapply rep_of_owns; iexact H2
      isplitl [HT0]; · iexact HT0
      iexact HT1
    isplitl [H3]; · iexact H3
    isplitl [HS]; · iexact HS
    iintro ⟨⟨H0, H1, H2, HT0, HT1⟩, H3, HS⟩
    isplitl [HS HT0 HT1 Hg]
    · isplitl [HS]
      · iexists _, _, _; isplitr; swap
        · iexact HS
        · ipureintro; exact fun _ => ⟨rfl, rfl, rfl⟩
      isplitl [HT0 HT1]
      · isplitl [HT0]; · iexact HT0
        iexact HT1
      iexact Hg
    isplitl [Ho]; · iexact Ho
    isplitl [H0]; · iapply owns_of_rep; iexact H0
    isplitl [H1]; · iapply owns_of_rep; iexact H1
    isplitl [H2]; · iapply owns_of_rep; iexact H2
    iexists d3; iexact H3
  · have i3 : (cfgA F).idle (3 : Fin 4) ((cfgA F).grid.coords t) = false := hi.trans (decide_eq_false hb)
    rewrite [i3]
    simp only [before0_0, before0_1, before0_2, before0_3, after0_0, after0_1, after0_2, after0_3]
    rewrite [dats_Φ, dats_Φ, Fin.val_castSucc, Fin.val_succ, owes_succ]
    unfold Phi
    iintro ⟨⟨⟨%x0, %x1, %x2, %hx, HS⟩, ⟨HT0, HT1⟩, Hg⟩, Ho, ⟨%d0, H0⟩, ⟨%d1, H1⟩, ⟨%d2, H2⟩, H3⟩
    iapply (runs_last m c t hb x0 x1 x2 hx _)
    isplitl [H0 H1 H2 HT0 HT1]
    · isplitl [H0]; · iapply rep_of_owns; iexact H0
      isplitl [H1]; · iapply rep_of_owns; iexact H1
      isplitl [H2]; · iapply rep_of_owns; iexact H2
      isplitl [HT0]; · iexact HT0
      iexact HT1
    isplitl [H3]; · iexact H3
    isplitl [HS]; · iexact HS
    iintro ⟨⟨H0, H1, H2, HT0, HT1⟩, ⟨%f, H3⟩, HS⟩
    isplitl [HS HT0 HT1 Hg]
    · isplitl [HS]
      · iexists _, _, _; isplitr; swap
        · iexact HS
        · ipureintro; exact fun _ => ⟨rfl, rfl, rfl⟩
      isplitl [HT0 HT1]
      · isplitl [HT0]; · iexact HT0
        iexact HT1
      iexact Hg
    isplitl [Ho]; · iexact Ho
    isplitl [H0]; · iapply owns_of_rep; iexact H0
    isplitl [H1]; · iapply owns_of_rep; iexact H1
    isplitl [H2]; · iapply owns_of_rep; iexact H2
    unfold owns
    iexists _; isplitr; swap
    · iexact H3
    · ipureintro
      rw [View.read_writes_cons_put _ _ inb_S1x1024x128_S1x1024x128_0_0_0 _ _ rfl]
      exact put_all _ _

theorem body_obligation (c : Dev nD) : BodyObligation (dats m 0 c) (defs₀ (F := F)) Variants.none () Set.univ := fun t => by
  rw [bigSep_W0]
  exact sound_body m c t

theorem share_eq (c : Dev nD) (w : Fin (cfgA F).W) : (dats m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- What the pipeline is launched with gives the invariant before the first point. -/
theorem phi_in (c : Dev nD) : iprop(Pipeline.ΦA (cfgA F).spec c ∗ Pipeline.ΦT pre0 (adm (F := F)).1 c) ⊢ (dats m 0 c).Φ 0 := by
  rw [dats_Φ, Fin.val_zero]
  unfold Phi Pipeline.ΦA Pipeline.ΦT
  rw [prefHeld_eq, show (cfgA F).spec = spec0 from rfl, scopedRest0_eq]
  iintro ⟨⟨⟨⟨%a0, HS0⟩, ⟨%a1, HS1⟩, ⟨%a2, HS2⟩⟩, Hg⟩, ⟨HT0, HT1⟩⟩
  isplitl [HS0 HS1 HS2]
  · iexists a0, a1, a2
    isplitr; · ipureintro; exact fun h => absurd rfl h
    isplitl [HS0]; · iexact HS0
    isplitl [HS1]; · iexact HS1
    iexact HS2
  isplitl [HT0 HT1]
  · isplitl [HT0]; · iexact HT0
    iexact HT1
  iexact Hg

/-- After the last point the scratch arrays are given back. -/
theorem phi_out (c : Dev nD) : (dats m 0 c).Φ (Fin.last (cfgA F).N) ⊢ Pipeline.ΦA (cfgA F).spec c := by
  rw [dats_Φ]
  unfold Phi Pipeline.ΦA
  rw [show (cfgA F).spec = spec0 from rfl, scopedRest0_eq]
  iintro ⟨⟨%a0, %a1, %a2, -, ⟨HS0, HS1, HS2⟩⟩, -, Hg⟩
  isplitl [HS0 HS1 HS2]
  · isplitl [HS0]; · iexists a0; iexact HS0
    isplitl [HS1]; · iexists a1; iexact HS1
    iexists a2; iexact HS2
  iexact Hg

/-- The pipeline reads its tables where the host wrote them. -/
theorem V_pre (c : Dev nD) (j : Fin 2) : V m c (pre0.ref j) = (adm (F := F)).1 j := by
  fin_cases j
  · show StableHlo.after hostOps0 _ main_c = _
    unfold hostOps0
    after_results
    rfl
  · show StableHlo.after hostOps0 _ main_c_0 = _
    unfold hostOps0
    after_results
    rfl

set_option backward.isDefEq.respectTransparency.types false in
set_option maxHeartbeats 4000000 in
/-- Every run ends with the arrays at the blocks written back, every other buffer as the pipeline found it, and every
    counter zero. -/
theorem run_main : θ_run (defs (F := F)) (onTc (τ := τ) (main (F := F))) (s₀ m g)
    (fun r => Pipeline.FramePost (fun _ : Fin 1 => cfgA F) (dats m) 0 (V m) r ∧ r.2.sem = fun _ => 0) :=
  Pipeline.θ_run_frameP_track pcfgs (fun _ => adm) (dats m) (0 : Fin 1) launch0 defs₀ Variants.none m g main
    (fun c => (body_obligation m c).loose) (share_eq m) (fun _ _ => rfl) (V m)
    (Pipeline.hmainP_prefix pcfgs (0 : Fin 1) defs₀ Variants.none m main hostOps0 hostOps0_sub ⟨rfl, rfl, rfl, rfl, rfl⟩ main_chain)
    (fun _ _ => rfl) (V_pre m) (phi_in m) (phi_out m)
    (fun r => Pipeline.FramePost (fun _ : Fin 1 => cfgA F) (dats m) 0 (V m) r ∧ r.2.sem = fun _ => 0) (fun _ h => h)

end Cert.KernelIdeal.Flash
-- ==== Proof.Frames.lean ====
module

public import proofs.«01_k».proof.Defs
public import proofs.«01_k».proof.Proof.Twin
public import proofs.«01_k».proof.Proof.Frame
public import proofs.«01_k».proof.Proof.Gen.ReferenceIdeal.Run
public import Idealize.ShloMosaic.Lib.Claim
public import Idealize.ShloMosaic.Lib.Quiescent

/-!
  The frame claims: every run of each program ends with the arguments unchanged and every counter zero.
-/

@[expose] public section

set_option maxRecDepth 16384

noncomputable section

namespace Cert.KernelIdeal.Flash

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (g : Dev nD → PrngReg)

theorem V_arg0 (c : Dev nD) : V m c main_arg0 = m ((c.tc : Thread nD τ).loc main_arg0) := by
  unfold V hostOps0
  after_results
theorem V_arg1 (c : Dev nD) : V m c main_arg1 = m ((c.tc : Thread nD τ).loc main_arg1) := by
  unfold V hostOps0
  after_results
theorem V_arg2 (c : Dev nD) : V m c main_arg2 = m ((c.tc : Thread nD τ).loc main_arg2) := by
  unfold V hostOps0
  after_results

/-- The buffers of the three arguments are no array of the pipeline. -/
theorem rest_arg0 : main_arg0 ∈ Pipeline.restRefs sig spec0 := by decide
theorem rest_arg1 : main_arg1 ∈ Pipeline.restRefs sig spec0 := by decide
theorem rest_arg2 : main_arg2 ∈ Pipeline.restRefs sig spec0 := by decide

/-- Every run ends with the result array at the blocks written back and the arguments unchanged. -/
theorem run_result : θ_run (defs (F := F)) (onTc (τ := τ) (main (F := F))) ⟨m, fun _ => 0, g⟩ (fun r => (∀ c : Dev nD,
    r.2.mem ((c.tc : Thread nD τ).loc main_v3) = (dats m 0 c).arrAt (3 : Fin 4) (cfgA F).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0) :=
  (θ_run _ _ _).mono (fun r h => ⟨fun c => ⟨(h.1 c).1 (3 : Fin 4), ((h.1 c).2 main_arg0 rest_arg0).trans (V_arg0 m c),
    ((h.1 c).2 main_arg1 rest_arg1).trans (V_arg1 m c), ((h.1 c).2 main_arg2 rest_arg2).trans (V_arg2 m c)⟩, h.2⟩) (run_main m g)

end Cert.KernelIdeal.Flash

namespace Cert.Proof

open Idealize.ShloMosaic Idealize.SL.Sem

theorem frame_KernelIdeal : Cert.quiescent_KernelIdeal := fun m g _ =>
  (θ_run _ _ _).mono (fun _ h => ⟨fun c => (h.1 c).2, h.2⟩) (Cert.KernelIdeal.Flash.run_result m g)

theorem frame_Kernel : Cert.quiescent_Kernel := fun m g _ =>
  twin.mp (fun m g => (θ_run _ _ _).mono (fun _ h => ⟨fun c => (h.1 c).2, h.2⟩) (Cert.KernelIdeal.Flash.run_result m g)) m g

theorem frame_ReferenceIdeal : Cert.quiescent_ReferenceIdeal := fun m g _ =>
  (θ_run _ _ _).mono (fun r h => ⟨fun c => (h c).2, sem_eq_zero_of_no_sems rfl r.2⟩) (Cert.ReferenceIdeal.Value.run m g)

end Cert.Proof

end
-- ==== Proof.Points.lean ====
module

public import proofs.«01_k».proof.Proof.Frames

/-!
  The grid in numbers: which sequence, which pair of heads, which query block and which key block a point works on, and what
  the point before it worked on.
-/

@[expose] public section

set_option maxRecDepth 16384

noncomputable section

namespace Cert.KernelIdeal.Flash

open Cert.KernelIdeal Cert.KernelIdeal.Gen
open Idealize.ShloMosaic Idealize.ShloMosaic.Tactic
open Idealize.ShloMosaic.TcCoe
open Idealize.ShloMosaic.Pipeline (Dat Cfg Window)

/-- A point of the grid. -/
abbrev Pt := Fin (cfgA Ideal).N

/-- The sequence of a point. -/
abbrev sq (t : Pt) : ℕ := t.val / 272
/-- The pair of heads of a point. -/
abbrev pr (t : Pt) : ℕ := t.val / 136 % 2
/-- The query block of a point. -/
abbrev qn (t : Pt) : ℕ := (qi Ideal t).toNat
/-- The key block of a point. -/
abbrev kn (t : Pt) : ℕ := (ki Ideal t).toNat
/-- The point before. -/
abbrev prev (t : Pt) : Pt := ⟨t.val - 1, Nat.lt_of_le_of_lt (Nat.sub_le _ _) t.2⟩

theorem point_words : ∀ t : Pt, sq t < 2 ∧ qn t < 16 ∧ kn t ≤ qn t ∧ (Start (ki Ideal t) ↔ kn t = 0) ∧ (Below (qi Ideal t) (ki Ideal t) ↔ kn t < qn t) := by
  decide +kernel

theorem point_prev : ∀ t : Pt, kn t = 0 ∨ (0 < t.val ∧ sq (prev t) = sq t ∧ pr (prev t) = pr t ∧ qn (prev t) = qn t ∧ kn (prev t) + 1 = kn t) := by
  decide +kernel

theorem index_0 : ∀ t : Pt, ((cfgA Ideal).win (0 : Fin 4)).index t = ![sq t, qn t, pr t] := by
  decide +kernel

theorem index_1 : ∀ t : Pt, ((cfgA Ideal).win (1 : Fin 4)).index t = ![sq t, kn t, pr t] := by
  decide +kernel

theorem index_2 : ∀ t : Pt, ((cfgA Ideal).win (2 : Fin 4)).index t = ![sq t, kn t, pr t] := by
  decide +kernel

theorem index_3 : ∀ t : Pt, ((cfgA Ideal).win (3 : Fin 4)).index t = ![sq t, qn t, pr t] := by
  decide +kernel

theorem covers : ((cfgA Ideal).win (3 : Fin 4)).Covers := by
  decide +kernel

end Cert.KernelIdeal.Flash

end
-- ==== Proof.Softmax.lean ====
module

public import Idealize.ShloMosaic.Lib.Pointwise

/-!
  Softmax over a growing prefix, on extended reals.

  Scores `s 0, s 1, …` may be −∞ (a masked key) or +∞. Relative to the maximum of the first `n` scores each key has a weight;
  the normaliser is the sum of the weights and the accumulator the sum of weight times value. Extending the prefix multiplies
  both by one factor and adds the new keys: no score needs to be finite for that. Only the quotient at the end needs a
  normaliser other than zero, which one finite maximum gives.
-/

@[expose] public section

noncomputable section

namespace Cert.Softmax

open Idealize.ShloMosaic

/-- The exponential is never negative. -/
theorem exp_nonneg (x : EReal) : 0 ≤ Ideal.exp x := by
  induction x using EReal.rec with
  | bot => exact le_refl _
  | coe r => exact EReal.coe_nonneg.2 (Real.exp_pos r).le
  | top => exact le_top

theorem exp_bot : Ideal.exp ⊥ = 0 := rfl

theorem exp_coe (r : ℝ) : Ideal.exp (r : EReal) = (Real.exp r : EReal) := rfl

/-- Relative to something not below it, an exponential is finite. -/
theorem exp_sub_ne_top {x y : EReal} (h : x ≤ y) : Ideal.exp (x - y) ≠ ⊤ := by
  induction x using EReal.rec with
  | bot => rw [EReal.bot_sub, exp_bot]; exact EReal.zero_ne_top
  | coe a =>
    induction y using EReal.rec with
    | bot => exact absurd (le_bot_iff.1 h) (EReal.coe_ne_bot a)
    | coe b => rw [← EReal.coe_sub, exp_coe]; exact EReal.coe_ne_top _
    | top => rw [EReal.sub_top, exp_bot]; exact EReal.zero_ne_top
  | top =>
    rw [top_le_iff.1 h, EReal.sub_top, exp_bot]; exact EReal.zero_ne_top

/-- Moving a weight from one maximum to a larger one is a product. -/
theorem exp_mul {x y z : EReal} (hxy : x ≤ y) (hyz : y ≤ z) : Ideal.exp (y - z) * Ideal.exp (x - y) = Ideal.exp (x - z) := by
  induction x using EReal.rec with
  | bot => rw [EReal.bot_sub, EReal.bot_sub, exp_bot, mul_zero]
  | coe a =>
    induction y using EReal.rec with
    | bot => exact absurd (le_bot_iff.1 hxy) (EReal.coe_ne_bot a)
    | coe b =>
      induction z using EReal.rec with
      | bot => exact absurd (le_bot_iff.1 hyz) (EReal.coe_ne_bot b)
      | coe d =>
        rw [← EReal.coe_sub, ← EReal.coe_sub, ← EReal.coe_sub, exp_coe, exp_coe, exp_coe, ← EReal.coe_mul, ← Real.exp_add]
        congr 2; ring
      | top => rw [EReal.sub_top, EReal.sub_top, exp_bot, zero_mul]
    | top => rw [top_le_iff.1 hyz, EReal.sub_top, EReal.sub_top, exp_bot, zero_mul]
  | top => rw [top_le_iff.1 hxy] at hyz ⊢; rw [top_le_iff.1 hyz, EReal.sub_top, exp_bot, zero_mul]

/-- A finite factor that is not negative distributes over a finite sum. -/
theorem mul_sum {ι : Type} (A : Finset ι) (f : ι → EReal) {c : EReal} (h0 : 0 ≤ c) (ht : c ≠ ⊤) : c * ∑ i ∈ A, f i = ∑ i ∈ A, c * f i := by
  classical
  induction A using Finset.induction_on with
  | empty => rw [Finset.sum_empty, Finset.sum_empty, mul_zero]
  | insert a A ha ih => rw [Finset.sum_insert ha, Finset.sum_insert ha, EReal.left_distrib_of_nonneg_of_ne_top h0 ht, ih]

/-- The largest of the first `n` scores. -/
def top (s : ℕ → EReal) (n : ℕ) : EReal := (Finset.range n).sup s

/-- A key's weight relative to the first `n` scores. -/
def wt (s : ℕ → EReal) (n j : ℕ) : EReal := Ideal.exp (s j - top s n)

/-- The normaliser of the first `n` keys. -/
def norm (s : ℕ → EReal) (n : ℕ) : EReal := ∑ j ∈ Finset.range n, wt s n j

/-- The weighted sum of the first `n` values. -/
def acc (s v : ℕ → EReal) (n : ℕ) : EReal := ∑ j ∈ Finset.range n, wt s n j * v j

theorem le_top' (s : ℕ → EReal) {n j : ℕ} (h : j < n) : s j ≤ top s n := Finset.le_sup (Finset.mem_range.2 h)

theorem top_mono (s : ℕ → EReal) {n n' : ℕ} (h : n ≤ n') : top s n ≤ top s n' := Finset.sup_mono (Finset.range_mono h)

theorem top_zero (s : ℕ → EReal) : top s 0 = ⊥ := rfl

theorem norm_zero (s : ℕ → EReal) : norm s 0 = 0 := rfl

theorem acc_zero (s v : ℕ → EReal) : acc s v 0 = 0 := rfl

/-- The maximum of a longer prefix: of the shorter one's and the new scores. -/
theorem top_add (s : ℕ → EReal) (n K : ℕ) : max (top s n) (Finset.univ.fold max ⊥ fun k : Fin K => s (n + k)) = top s (n + K) := by
  refine le_antisymm (max_le (top_mono s (Nat.le_add_right n K)) ?_) ?_
  · rw [show (Finset.univ.fold max ⊥ fun k : Fin K => s (n + k)) = Finset.univ.sup (fun k : Fin K => s (n + k)) from rfl]
    exact Finset.sup_le fun k _ => le_top' s (Nat.add_lt_add_left k.2 n)
  · refine Finset.sup_le fun j hj => ?_
    have hj' := Finset.mem_range.1 hj
    by_cases h : j < n
    · exact le_max_of_le_left (le_top' s h)
    · refine le_max_of_le_right ?_
      rw [show (Finset.univ.fold max ⊥ fun k : Fin K => s (n + k)) = Finset.univ.sup (fun k : Fin K => s (n + k)) from rfl]
      have := Finset.le_sup (f := fun k : Fin K => s (n + k)) (Finset.mem_univ (⟨j - n, by omega⟩ : Fin K))
      simpa [Nat.add_sub_cancel' (Nat.le_of_not_lt h)] using this

/-- A sum over a longer prefix: the shorter one's and the new terms. -/
theorem sum_add (f : ℕ → EReal) (n K : ℕ) : ∑ j ∈ Finset.range (n + K), f j = ∑ j ∈ Finset.range n, f j + ∑ k : Fin K, f (n + k) := by
  rw [Finset.sum_range_add, Finset.sum_range (fun k => f (n + k))]

/-- Moving the weighted sum of a prefix to a later maximum. -/
theorem move_acc (s v : ℕ → EReal) {n n' : ℕ} (h : n ≤ n') :
    Ideal.exp (top s n - top s n') * acc s v n = ∑ j ∈ Finset.range n, wt s n' j * v j := by
  unfold acc
  rw [mul_sum _ _ (exp_nonneg _) (exp_sub_ne_top (top_mono s h))]
  refine Finset.sum_congr rfl fun j hj => ?_
  rw [← mul_assoc]
  exact congrArg (· * v j) (exp_mul (le_top' s (Finset.mem_range.1 hj)) (top_mono s h))

/-- Moving the normaliser of a prefix to a later maximum. -/
theorem move_norm (s : ℕ → EReal) {n n' : ℕ} (h : n ≤ n') :
    Ideal.exp (top s n - top s n') * norm s n = ∑ j ∈ Finset.range n, wt s n' j := by
  unfold norm
  rw [mul_sum _ _ (exp_nonneg _) (exp_sub_ne_top (top_mono s h))]
  exact Finset.sum_congr rfl fun j hj => exp_mul (le_top' s (Finset.mem_range.1 hj)) (top_mono s h)

/-- One step of the running normaliser. -/
theorem norm_add (s : ℕ → EReal) (n K : ℕ) :
    Ideal.exp (top s n - top s (n + K)) * norm s n + ∑ k : Fin K, Ideal.exp (s (n + k) - top s (n + K)) = norm s (n + K) := by
  rw [move_norm s (Nat.le_add_right n K)]
  exact (sum_add _ n K).symm

/-- One step of the running weighted sum. -/
theorem acc_add (s v : ℕ → EReal) (n K : ℕ) :
    acc s v n * Ideal.exp (top s n - top s (n + K)) + ∑ k : Fin K, Ideal.exp (s (n + k) - top s (n + K)) * v (n + k) = acc s v (n + K) := by
  rw [mul_comm, move_acc s v (Nat.le_add_right n K)]
  exact (sum_add _ n K).symm

/-- Masked keys after a prefix leave its maximum. -/
theorem top_pad (s : ℕ → EReal) {n N : ℕ} (hn : n ≤ N) (hs : ∀ j, n ≤ j → s j = ⊥) : top s N = top s n := by
  refine le_antisymm (Finset.sup_le fun j _ => ?_) (top_mono s hn)
  by_cases h : j < n
  · exact le_top' s h
  · rw [hs j (Nat.le_of_not_lt h)]; exact bot_le

/-- Masked keys after a prefix add nothing. -/
theorem sum_pad (f : ℕ → EReal) {n N : ℕ} (hn : n ≤ N) (hf : ∀ j, n ≤ j → f j = 0) : ∑ j ∈ Finset.range N, f j = ∑ j ∈ Finset.range n, f j :=
  (Finset.sum_subset (Finset.range_mono hn) fun j _ hj => hf j (Nat.le_of_not_lt fun h => hj (Finset.mem_range.2 h))).symm

theorem wt_masked (s : ℕ → EReal) (n : ℕ) {j : ℕ} (h : s j = ⊥) : wt s n j = 0 := by
  unfold wt; rw [h, EReal.bot_sub, exp_bot]

theorem norm_pad (s : ℕ → EReal) {n N : ℕ} (hn : n ≤ N) (hs : ∀ j, n ≤ j → s j = ⊥) : norm s N = norm s n := by
  unfold norm
  rw [sum_pad _ hn fun j hj => wt_masked s N (hs j hj)]
  unfold wt
  rw [top_pad s hn hs]

theorem acc_pad (s v : ℕ → EReal) {n N : ℕ} (hn : n ≤ N) (hs : ∀ j, n ≤ j → s j = ⊥) : acc s v N = acc s v n := by
  unfold acc
  rw [sum_pad _ hn fun j hj => by rw [wt_masked s N (hs j hj), zero_mul]]
  unfold wt
  rw [top_pad s hn hs]

/-- The quotient distributes into the weighted sum where the normaliser is not zero. -/
theorem div_acc (s v : ℕ → EReal) (n : ℕ) (h : norm s n ≠ 0) :
    Ideal.div (acc s v n) (norm s n) = ∑ j ∈ Finset.range n, v j * Ideal.div (wt s n j) (norm s n) := by
  have hpos : 0 ≤ norm s n := Finset.sum_nonneg fun j _ => exp_nonneg _
  unfold Ideal.div
  simp only [if_neg h]
  rw [mul_comm]
  unfold acc
  rw [mul_sum _ _ (EReal.inv_nonneg_of_nonneg hpos) ?_]
  · exact Finset.sum_congr rfl fun j _ => by rw [mul_comm _ (v j), ← mul_assoc, mul_comm _ (v j), mul_assoc, mul_comm (_)⁻¹]
  · intro ht
    generalize norm s n = y at h ht
    induction y using EReal.rec with
    | bot => simp at ht
    | coe r => rw [← EReal.coe_inv] at ht; exact EReal.coe_ne_top _ ht
    | top => simp at ht

/-- One key at a finite maximum makes the normaliser positive. -/
theorem norm_ne_zero (s : ℕ → EReal) (n : ℕ) (ht : top s n ≠ ⊤) (hb : ∃ j < n, s j ≠ ⊥) : norm s n ≠ 0 := by
  obtain ⟨j, hj, hs⟩ := hb
  have hle := le_top' s hj
  have hpos : 0 < wt s n j := by
    unfold wt
    generalize top s n = y at ht hle
    generalize s j = x at hs hle
    induction x using EReal.rec with
    | bot => exact absurd rfl hs
    | coe a =>
      induction y using EReal.rec with
      | bot => exact absurd (le_bot_iff.1 hle) (EReal.coe_ne_bot a)
      | coe b => rw [← EReal.coe_sub, exp_coe]; exact EReal.coe_pos.2 (Real.exp_pos _)
      | top => exact absurd rfl ht
    | top => exact absurd (top_le_iff.1 hle) ht
  exact (lt_of_lt_of_le hpos (Finset.single_le_sum (f := wt s n) (fun i _ => exp_nonneg _) (Finset.mem_range.2 hj))).ne'

end Cert.Softmax

end
-- ==== Proof.Causal.lean ====
module

public import proofs.«01_k».proof.Proof.Softmax

/-!
  One query row of the causal attention: its scores and its values, counted by key position.
-/

@[expose] public section

set_option maxRecDepth 16384

noncomputable section

namespace Cert.Softmax

open Idealize.ShloMosaic

/-- The word for −∞ is the least extended real. -/
theorem ofBits_bot : Ideal.ofBits .f32 0xFF800000#32 = (⊥ : EReal) := rfl

/-- An array's entry at two natural numbers. -/
def entry {N L : ℕ} (x : FVec Ideal ⟨2, ![N, L]⟩ .bf16) (i l : ℕ) : EReal := if h : i < N ∧ l < L then x (ix2 ⟨i, h.1⟩ ⟨l, h.2⟩) else 0

theorem entry_ix2 {N L : ℕ} (x : FVec Ideal ⟨2, ![N, L]⟩ .bf16) (i : Fin N) (l : Fin L) : x (ix2 i l) = entry x i.val l.val := by
  unfold entry; rw [dif_pos ⟨i.2, l.2⟩]

/-- The score of the query at position `Q` and the key at position `j`, sequence `b` and head `h`; −∞ if the key is later. -/
def score (q k : FVec Ideal ⟨2, ![32768, 512]⟩ .bf16) (b h Q j : ℕ) : EReal :=
  if j ≤ Q then ∑ d : Fin 128, entry q (b * 16384 + Q) (h * 128 + d.val) * entry k (b * 16384 + j) (h * 128 + d.val) else ⊥

/-- Lane `l` of the values at position `j` of sequence `b`. -/
def value (v : FVec Ideal ⟨2, ![32768, 256]⟩ .bf16) (b l j : ℕ) : EReal := entry v (b * 16384 + j) l

theorem score_later (q k : FVec Ideal ⟨2, ![32768, 512]⟩ .bf16) (b h Q : ℕ) {j : ℕ} (hj : Q < j) : score q k b h Q j = ⊥ :=
  if_neg (Nat.not_le_of_lt hj)

/-- An array without infinities. -/
def Finite {s : Shape} (x : FVec Ideal s .bf16) : Prop := ∀ i, x i ≠ (⊥ : EReal) ∧ x i ≠ (⊤ : EReal)

theorem entry_real {N L : ℕ} (x : FVec Ideal ⟨2, ![N, L]⟩ .bf16) (hx : Finite x) (i l : ℕ) : ∃ r : ℝ, entry x i l = r := by
  unfold entry
  by_cases h : i < N ∧ l < L
  · rw [dif_pos h]
    exact ⟨(x (ix2 ⟨i, h.1⟩ ⟨l, h.2⟩) : EReal).toReal, (EReal.coe_toReal (hx _).2 (hx _).1).symm⟩
  · rw [dif_neg h]; exact ⟨0, rfl⟩

theorem sum_real {ι : Type} (A : Finset ι) (f : ι → EReal) (hf : ∀ i, ∃ r : ℝ, f i = r) : ∃ r : ℝ, ∑ i ∈ A, f i = r := by
  classical
  induction A using Finset.induction_on with
  | empty => exact ⟨0, rfl⟩
  | insert a A ha ih =>
    obtain ⟨r, hr⟩ := ih; obtain ⟨t, ht⟩ := hf a
    exact ⟨t + r, by rw [Finset.sum_insert ha, hr, ht, EReal.coe_add]⟩

theorem score_real (q k : FVec Ideal ⟨2, ![32768, 512]⟩ .bf16) (hq : Finite q) (hk : Finite k) (b h Q : ℕ) {j : ℕ} (hj : j ≤ Q) :
    ∃ r : ℝ, score q k b h Q j = r := by
  unfold score
  rw [if_pos hj]
  refine sum_real _ _ fun d => ?_
  obtain ⟨r, hr⟩ := entry_real q hq (b * 16384 + Q) (h * 128 + d.val)
  obtain ⟨t, ht⟩ := entry_real k hk (b * 16384 + j) (h * 128 + d.val)
  exact ⟨r * t, by rw [hr, ht, EReal.coe_mul]⟩

/-- Finite queries and keys: a row that contains its own key has a normaliser other than zero. -/
theorem norm_score_ne_zero (q k : FVec Ideal ⟨2, ![32768, 512]⟩ .bf16) (hq : Finite q) (hk : Finite k) (b h Q : ℕ) {n : ℕ} (hn : Q < n) :
    norm (score q k b h Q) n ≠ 0 := by
  refine norm_ne_zero _ n (ne_of_lt ?_) ⟨Q, hn, ?_⟩
  · refine (Finset.sup_lt_iff bot_lt_top).2 fun j _ => ?_
    by_cases hj : j ≤ Q
    · obtain ⟨r, hr⟩ := score_real q k hq hk b h Q hj
      rw [hr]; exact EReal.coe_lt_top r
    · rw [score_later q k b h Q (Nat.lt_of_not_le hj)]; exact bot_lt_top
  · obtain ⟨r, hr⟩ := score_real q k hq hk b h Q (le_refl Q)
    rw [hr]; exact EReal.coe_ne_bot r

/-- The attention's result at position `Q` and lane `l` of sequence `b`, from the first `n` keys. -/
def attnRow (q k : FVec Ideal ⟨2, ![32768, 512]⟩ .bf16) (v : FVec Ideal ⟨2, ![32768, 256]⟩ .bf16) (b Q l n : ℕ) : EReal :=
  Ideal.div (acc (score q k b (l / 64) Q) (value v b l) n) (norm (score q k b (l / 64) Q) n)

/-- From all keys it is the same as from a prefix that reaches the query. -/
theorem attnRow_pad (q k : FVec Ideal ⟨2, ![32768, 512]⟩ .bf16) (v : FVec Ideal ⟨2, ![32768, 256]⟩ .bf16) (b Q l : ℕ) {n N : ℕ} (hQ : Q < n) (hn : n ≤ N) :
    attnRow q k v b Q l N = attnRow q k v b Q l n := by
  unfold attnRow
  rw [acc_pad _ _ hn fun j hj => score_later q k b _ Q (by omega), norm_pad _ hn fun j hj => score_later q k b _ Q (by omega)]

end Cert.Softmax

end
-- ==== Proof.Rows.lean ====
module

public import proofs.«01_k».proof.Proof.Step
public import proofs.«01_k».proof.Proof.Causal
public import Idealize.ShloMosaic.Lib.WordCmp

/-!
  A grid point's step, row by row: what is kept of a head is the softmax of a prefix of the keys.
-/

@[expose] public section

set_option maxRecDepth 16384

noncomputable section

namespace Cert.KernelIdeal.Flash

open Cert.KernelIdeal Cert.KernelIdeal.Gen
open Idealize.ShloMosaic Idealize.ShloMosaic.Tactic
open Idealize.ShloMosaic.TcCoe
open Cert.Softmax (top norm acc ofBits_bot)

/-- A head holds the softmax of the first `n` keys: `s` the scores of each row, `v` the values of each lane, by key position. -/
def Holds (H : Head Ideal) (s : Fin 1024 → ℕ → EReal) (v : Fin 128 → ℕ → EReal) (n : ℕ) : Prop :=
  (∀ r d, H.m (ix3 0 r d) = top (s r) n) ∧ (∀ r d, H.l (ix3 0 r d) = norm (s r) n) ∧ ∀ r d, H.a (ix3 0 r d) = acc (s r) (v d) n

theorem scores_at (q : Vec Ideal S1x1024x128 .bf16) (k : Vec Ideal S1x512x128 .bf16) (r : Fin 1024) (j : Fin 512) :
    scores (F := Ideal) q k (ix2 r j) = ∑ d : Fin 128, (show EReal from q (ix3 0 r d)) * (show EReal from k (ix3 0 j d)) := by
  pointwise [scores]

theorem masked_at (b : ℕ) (hb : b < 1024) (s : FVec Ideal S1024x512 .f32) (r : Fin 1024) (j : Fin 512) :
    masked (F := Ideal) (BitVec.ofNat 32 b) s (ix2 r j) = if j.val + b ≤ r.val then s (ix2 r j) else (⊥ : EReal) := by
  pointwise [masked]
  rw [ofBits_bot, WordCmp.addi_ofNat]
  word_cmp

theorem newMax_at (s : FVec Ideal S1024x512 .f32) (m : Vec Ideal S1x1024x128 .f32) (r : Fin 1024) (d : Fin 128) :
    newMax (F := Ideal) s m (ix2 r d) = max (show EReal from m (ix3 0 r d)) (Finset.univ.fold max (⊥ : EReal) fun j : Fin 512 => s (ix2 r j)) := by
  have e (x y : FVec Ideal S1024x128 .f32) (i : S1024x128.Idx) : maximumf x y i = max (show EReal from x i) (y i) := rfl
  unfold newMax
  rw [e]
  refine congrArg₂ max ?_ ?_
  · pointwise
  · pointwise
    rfl

theorem fold_m (s : FVec Ideal S1024x512 .f32) (v : Vec Ideal S1x512x128 .bf16) (H : Head Ideal) (r : Fin 1024) (d : Fin 128) :
    (H.fold s v).m (ix3 0 r d) = newMax (F := Ideal) s H.m (ix2 r d) := by
  pointwise [Head.fold]

theorem fold_l (s : FVec Ideal S1024x512 .f32) (v : Vec Ideal S1x512x128 .bf16) (H : Head Ideal) (r : Fin 1024) (d : Fin 128) :
    (H.fold s v).l (ix3 0 r d)
      = Ideal.exp ((show EReal from H.m (ix3 0 r d)) - (show EReal from newMax (F := Ideal) s H.m (ix2 r d))) * (show EReal from H.l (ix3 0 r d))
        + ∑ j : Fin 512, Ideal.exp ((show EReal from s (ix2 r j)) - (show EReal from newMax (F := Ideal) s H.m (ix2 r 0))) := by
  pointwise [Head.fold, decay, weights]

theorem fold_a (s : FVec Ideal S1024x512 .f32) (v : Vec Ideal S1x512x128 .bf16) (H : Head Ideal) (r : Fin 1024) (d : Fin 128) :
    (H.fold s v).a (ix3 0 r d)
      = (show EReal from H.a (ix3 0 r d)) * Ideal.exp ((show EReal from H.m (ix3 0 r d)) - (show EReal from newMax (F := Ideal) s H.m (ix2 r d)))
        + ∑ j : Fin 512, Ideal.exp ((show EReal from s (ix2 r j)) - (show EReal from newMax (F := Ideal) s H.m (ix2 r 0))) * (show EReal from v (ix3 0 j d)) := by
  pointwise [Head.fold, decay, weights]

theorem result_at (H H' : Head Ideal) (r : Fin 1024) (d : Fin 128) :
    result (F := Ideal) H H' (ix3 0 r d)
      = if d.val < 64 then Ideal.div (H.a (ix3 0 r d)) (H.l (ix3 0 r d)) else Ideal.div (H'.a (ix3 0 r d)) (H'.l (ix3 0 r d)) := by
  pointwise [result]
  word_cmp

/-- A reset head holds the softmax of no key. -/
theorem reset_holds (s : Fin 1024 → ℕ → EReal) (v : Fin 128 → ℕ → EReal) : Holds Head.reset s v 0 := by
  refine ⟨fun r d => ?_, fun r d => ?_, fun r d => ?_⟩
  · pointwise [Head.reset]; exact ofBits_bot
  · pointwise [Head.reset]; rfl
  · pointwise [Head.reset]; rfl

/-- One sub-step: the prefix grows by 512 keys. -/
theorem fold_holds {H : Head Ideal} {s : Fin 1024 → ℕ → EReal} {v : Fin 128 → ℕ → EReal} {n : ℕ} (h : Holds H s v n)
    (S : FVec Ideal S1024x512 .f32) (V : Vec Ideal S1x512x128 .bf16) (hS : ∀ (r : Fin 1024) (j : Fin 512), S (ix2 r j) = s r (n + j.val))
    (hV : ∀ (j : Fin 512) (d : Fin 128), V (ix3 0 j d) = v d (n + j.val)) : Holds (H.fold S V) s v (n + 512) := by
  have hm (r : Fin 1024) (d : Fin 128) : newMax (F := Ideal) S H.m (ix2 r d) = top (s r) (n + 512) := by
    rw [newMax_at, h.1 r d, ← Softmax.top_add]
    simp only [hS]
  refine ⟨fun r d => (fold_m S V H r d).trans (hm r d), fun r d => ?_, fun r d => ?_⟩
  · rw [fold_l, hm, hm, h.1, h.2.1, ← Softmax.norm_add]
    simp only [hS]
  · rw [fold_a, hm, hm, h.1, h.2.2, ← Softmax.acc_add]
    simp only [hS, hV]

end Cert.KernelIdeal.Flash

end
-- ==== Proof.Blocks.lean ====
module

public import proofs.«01_k».proof.Proof.Points
public import proofs.«01_k».proof.Proof.Rows

/-!
  The blocks of a grid point, as entries of the three arguments.
-/

@[expose] public section

set_option maxRecDepth 16384

noncomputable section

namespace Cert.KernelIdeal.Flash

open Cert.KernelIdeal Cert.KernelIdeal.Gen
open Idealize.ShloMosaic Idealize.ShloMosaic.Tactic
open Idealize.ShloMosaic.TcCoe
open Idealize.ShloMosaic.Pipeline (Dat Cfg Window)
open Cert.Softmax (entry entry_ix2 score value)

variable (m : (ℓ : Loc nD τ sig) → Buf (Elt Ideal) ℓ)

/-- The queries. -/
abbrev aq (c : Dev nD) : FVec Ideal S32768x512 .bf16 := m ((c.tc : Thread nD τ).loc main_arg0)
/-- The keys. -/
abbrev ak (c : Dev nD) : FVec Ideal S32768x512 .bf16 := m ((c.tc : Thread nD τ).loc main_arg1)
/-- The values. -/
abbrev av (c : Dev nD) : FVec Ideal S32768x256 .bf16 := m ((c.tc : Thread nD τ).loc main_arg2)

theorem V_main_v0 (c : Dev nD) : V m c main_v0 = shapeCast S2x16384x512 (aq m c) shapeCasts_S32768x512_S2x16384x512 := by
  rfl

theorem V_main_v1 (c : Dev nD) : V m c main_v1 = shapeCast S2x16384x512 (ak m c) shapeCasts_S32768x512_S2x16384x512 := by
  rfl

theorem V_main_v2 (c : Dev nD) : V m c main_v2 = shapeCast S2x16384x256 (av m c) shapeCasts_S32768x256_S2x16384x256 := by
  rfl

/-- The reshaped queries and keys, entry by entry. -/
theorem reshape_512 (x : FVec Ideal S32768x512 .bf16) (b : Fin 2) (p : Fin 16384) (l : Fin 512) :
    shapeCast S2x16384x512 x shapeCasts_S32768x512_S2x16384x512 (ix3 b p l) = entry x (b.val * 16384 + p.val) l.val := by
  pointwise
  exact entry_ix2 x _ _

/-- The reshaped values, entry by entry. -/
theorem reshape_256 (x : FVec Ideal S32768x256 .bf16) (b : Fin 2) (p : Fin 16384) (l : Fin 256) :
    shapeCast S2x16384x256 x shapeCasts_S32768x256_S2x16384x256 (ix3 b p l) = entry x (b.val * 16384 + p.val) l.val := by
  pointwise
  exact entry_ix2 x _ _

theorem pr_lt (t : Pt) : pr t < 2 := Nat.mod_lt _ (by decide)

theorem xq_at (c : Dev nD) (t : Pt) (r : Fin 1024) (l : Fin 256) :
    xq m c t (ix3 0 r l) = entry (aq m c) (sq t * 16384 + (qn t * 1024 + r.val)) (pr t * 256 + l.val) := by
  obtain ⟨h1, h2, -⟩ := point_words t
  have h3 := pr_lt t
  have e : xq m c t (ix3 0 r l) = V m c main_v0 (ix3 ⟨sq t, h1⟩ ⟨qn t * 1024 + r.val, by omega⟩ ⟨pr t * 256 + l.val, by omega⟩) := by
    blk_ext [iblk, index_0 t]
  rw [e, V_main_v0]
  exact reshape_512 _ _ _ _

theorem xk_at (c : Dev nD) (t : Pt) (r : Fin 1024) (l : Fin 256) :
    xk m c t (ix3 0 r l) = entry (ak m c) (sq t * 16384 + (kn t * 1024 + r.val)) (pr t * 256 + l.val) := by
  obtain ⟨h1, h2, h4, -⟩ := point_words t
  have h3 := pr_lt t
  have e : xk m c t (ix3 0 r l) = V m c main_v1 (ix3 ⟨sq t, h1⟩ ⟨kn t * 1024 + r.val, by omega⟩ ⟨pr t * 256 + l.val, by omega⟩) := by
    blk_ext [iblk, index_1 t]
  rw [e, V_main_v1]
  exact reshape_512 _ _ _ _

theorem xv_at (c : Dev nD) (t : Pt) (r : Fin 1024) (l : Fin 128) :
    xv m c t (ix3 0 r l) = entry (av m c) (sq t * 16384 + (kn t * 1024 + r.val)) (pr t * 128 + l.val) := by
  obtain ⟨h1, h2, h4, -⟩ := point_words t
  have h3 := pr_lt t
  have e : xv m c t (ix3 0 r l) = V m c main_v2 (ix3 ⟨sq t, h1⟩ ⟨kn t * 1024 + r.val, by omega⟩ ⟨pr t * 128 + l.val, by omega⟩) := by
    blk_ext [iblk, index_2 t]
  rw [e, V_main_v2]
  exact reshape_256 _ _ _ _

end Cert.KernelIdeal.Flash

end
-- ==== Proof.Attn.lean ====
module

public import proofs.«01_k».proof.Proof.Blocks

/-!
  After a grid point both heads hold the softmax of the keys up to the end of the point's key block; at the diagonal the
  quotient is the attention's row.
-/

@[expose] public section

set_option maxRecDepth 16384

noncomputable section

namespace Cert.KernelIdeal.Flash

open Cert.KernelIdeal Cert.KernelIdeal.Gen
open Idealize.ShloMosaic Idealize.ShloMosaic.Tactic
open Idealize.ShloMosaic.TcCoe
open Idealize.ShloMosaic.Pipeline (Dat Cfg Window)
open Cert.Softmax (entry entry_ix2 score value attnRow)

/-- One head's operands at a point: its queries, the two halves of its keys and of its values, as entries of the arguments. -/
structure Operands (q k : FVec Ideal S32768x512 .bf16) (v : FVec Ideal S32768x256 .bf16) (b h qb kb l0 : ℕ)
    (Q : Vec Ideal S1x1024x128 .bf16) (K K' W W' : Vec Ideal S1x512x128 .bf16) : Prop where
  hQ : ∀ (r : Fin 1024) (d : Fin 128), Q (ix3 0 r d) = entry q (b * 16384 + (qb * 1024 + r.val)) (h * 128 + d.val)
  hK : ∀ (j : Fin 512) (d : Fin 128), K (ix3 0 j d) = entry k (b * 16384 + (kb * 1024 + j.val)) (h * 128 + d.val)
  hK' : ∀ (j : Fin 512) (d : Fin 128), K' (ix3 0 j d) = entry k (b * 16384 + (kb * 1024 + 512 + j.val)) (h * 128 + d.val)
  hW : ∀ (j : Fin 512) (d : Fin 128), W (ix3 0 j d) = value v b (l0 + d.val) (kb * 1024 + j.val)
  hW' : ∀ (j : Fin 512) (d : Fin 128), W' (ix3 0 j d) = value v b (l0 + d.val) (kb * 1024 + 512 + j.val)

/-- The scores of a query block against half a key block. -/
theorem scores_entry {q k : FVec Ideal S32768x512 .bf16} {b h qb p : ℕ} {Q : Vec Ideal S1x1024x128 .bf16} {K : Vec Ideal S1x512x128 .bf16}
    (hQ : ∀ (r : Fin 1024) (d : Fin 128), Q (ix3 0 r d) = entry q (b * 16384 + (qb * 1024 + r.val)) (h * 128 + d.val))
    (hK : ∀ (j : Fin 512) (d : Fin 128), K (ix3 0 j d) = entry k (b * 16384 + (p + j.val)) (h * 128 + d.val)) (r : Fin 1024) (j : Fin 512) :
    scores (F := Ideal) Q K (ix2 r j)
      = ∑ d : Fin 128, entry q (b * 16384 + (qb * 1024 + r.val)) (h * 128 + d.val) * entry k (b * 16384 + (p + j.val)) (h * 128 + d.val) := by
  rw [scores_at]
  exact Finset.sum_congr rfl fun d _ => congrArg₂ (· * ·) (hQ r d) (hK j d)

/-- Below the diagonal every key precedes every query: the scores are the row's. -/
theorem scores_below {q k : FVec Ideal S32768x512 .bf16} {b h qb p : ℕ} {Q : Vec Ideal S1x1024x128 .bf16} {K : Vec Ideal S1x512x128 .bf16}
    (hQ : ∀ (r : Fin 1024) (d : Fin 128), Q (ix3 0 r d) = entry q (b * 16384 + (qb * 1024 + r.val)) (h * 128 + d.val))
    (hK : ∀ (j : Fin 512) (d : Fin 128), K (ix3 0 j d) = entry k (b * 16384 + (p + j.val)) (h * 128 + d.val))
    (hp : p + 512 ≤ qb * 1024) (r : Fin 1024) (j : Fin 512) :
    scores (F := Ideal) Q K (ix2 r j) = score q k b h (qb * 1024 + r.val) (p + j.val) := by
  rw [scores_entry hQ hK]
  unfold score
  rw [if_pos (by omega)]

/-- On the diagonal the mask is the row's own. -/
theorem scores_last {q k : FVec Ideal S32768x512 .bf16} {b h qb p : ℕ} {Q : Vec Ideal S1x1024x128 .bf16} {K : Vec Ideal S1x512x128 .bf16}
    (hQ : ∀ (r : Fin 1024) (d : Fin 128), Q (ix3 0 r d) = entry q (b * 16384 + (qb * 1024 + r.val)) (h * 128 + d.val))
    (hK : ∀ (j : Fin 512) (d : Fin 128), K (ix3 0 j d) = entry k (b * 16384 + (p + j.val)) (h * 128 + d.val))
    {o : ℕ} (ho : o < 1024) (hp : p = qb * 1024 + o) (r : Fin 1024) (j : Fin 512) :
    masked (F := Ideal) (BitVec.ofNat 32 o) (scores Q K) (ix2 r j) = score q k b h (qb * 1024 + r.val) (p + j.val) := by
  rw [masked_at o ho, scores_entry hQ hK]
  unfold score
  by_cases hr : j.val + o ≤ r.val
  · rw [if_pos hr, if_pos (by omega)]
  · rw [if_neg hr, if_neg (by omega)]

/-- A point below the diagonal, one head. -/
theorem below_holds {q k : FVec Ideal S32768x512 .bf16} {v : FVec Ideal S32768x256 .bf16} {b h qb kb l0 : ℕ} {Q : Vec Ideal S1x1024x128 .bf16} {K K' W W' : Vec Ideal S1x512x128 .bf16}
    (A : Operands q k v b h qb kb l0 Q K K' W W') (hlt : kb < qb) {H : Head Ideal}
    (hH : Holds H (fun r => score q k b h (qb * 1024 + r.val)) (fun d => value v b (l0 + d.val)) (kb * 1024)) :
    Holds (H.below Q K K' W W') (fun r => score q k b h (qb * 1024 + r.val)) (fun d => value v b (l0 + d.val)) (kb * 1024 + 512 + 512) :=
  fold_holds (fold_holds hH _ _ (scores_below A.hQ A.hK (by omega)) A.hW) _ _ (scores_below A.hQ A.hK' (by omega)) A.hW'

/-- The point on the diagonal, one head. -/
theorem last_holds {q k : FVec Ideal S32768x512 .bf16} {v : FVec Ideal S32768x256 .bf16} {b h qb kb l0 : ℕ} {Q : Vec Ideal S1x1024x128 .bf16} {K K' W W' : Vec Ideal S1x512x128 .bf16}
    (A : Operands q k v b h qb kb l0 Q K K' W W') (heq : kb = qb) {H : Head Ideal}
    (hH : Holds H (fun r => score q k b h (qb * 1024 + r.val)) (fun d => value v b (l0 + d.val)) (kb * 1024)) :
    Holds (H.last Q K K' W W') (fun r => score q k b h (qb * 1024 + r.val)) (fun d => value v b (l0 + d.val)) (kb * 1024 + 512 + 512) :=
  fold_holds (fold_holds hH _ _ (scores_last (o := 0) A.hQ A.hK (by omega) (by omega)) A.hW) _ _ (scores_last (o := 512) A.hQ A.hK' (by omega) (by omega)) A.hW'

end Cert.KernelIdeal.Flash

end
-- ==== Proof.Invariant.lean ====
module

public import proofs.«01_k».proof.Proof.Attn

/-!
  After a grid point both heads hold the softmax of the keys up to the end of the point's key block; at the diagonal the
  quotient is the attention's row.
-/

@[expose] public section

set_option maxRecDepth 16384

noncomputable section

namespace Cert.KernelIdeal.Flash

open Cert.KernelIdeal Cert.KernelIdeal.Gen
open Idealize.ShloMosaic Idealize.ShloMosaic.Tactic
open Idealize.ShloMosaic.TcCoe
open Idealize.ShloMosaic.Pipeline (Dat Cfg Window)
open Cert.Softmax (entry entry_ix2 score value attnRow)

variable (m : (ℓ : Loc nD τ sig) → Buf (Elt Ideal) ℓ)

section Slices

variable (x : Vec Ideal S1x1024x256 .bf16) (w : Vec Ideal S1x1024x128 .bf16)

theorem q0_at (r : Fin 1024) (d : Fin 128) : q0 (F := Ideal) x (ix3 0 r d) = x (ix3 0 r ⟨d.val, by omega⟩) := by
  pointwise [q0]
theorem q1_at (r : Fin 1024) (d : Fin 128) : q1 (F := Ideal) x (ix3 0 r d) = x (ix3 0 r ⟨128 + d.val, by omega⟩) := by
  pointwise [q1]
theorem k00_at (j : Fin 512) (d : Fin 128) : k00 (F := Ideal) x (ix3 0 j d) = x (ix3 0 ⟨j.val, by omega⟩ ⟨d.val, by omega⟩) := by
  pointwise [k00]
theorem k01_at (j : Fin 512) (d : Fin 128) : k01 (F := Ideal) x (ix3 0 j d) = x (ix3 0 ⟨512 + j.val, by omega⟩ ⟨d.val, by omega⟩) := by
  pointwise [k01]
theorem k10_at (j : Fin 512) (d : Fin 128) : k10 (F := Ideal) x (ix3 0 j d) = x (ix3 0 ⟨j.val, by omega⟩ ⟨128 + d.val, by omega⟩) := by
  pointwise [k10]
theorem k11_at (j : Fin 512) (d : Fin 128) : k11 (F := Ideal) x (ix3 0 j d) = x (ix3 0 ⟨512 + j.val, by omega⟩ ⟨128 + d.val, by omega⟩) := by
  pointwise [k11]
theorem v0_at (j : Fin 512) (d : Fin 128) : v0 (F := Ideal) w (ix3 0 j d) = w (ix3 0 ⟨j.val, by omega⟩ d) := by
  pointwise [v0]
theorem v1_at (j : Fin 512) (d : Fin 128) : v1 (F := Ideal) w (ix3 0 j d) = w (ix3 0 ⟨512 + j.val, by omega⟩ d) := by
  pointwise [v1]

end Slices

theorem entry_congr {N L : ℕ} (x : FVec Ideal ⟨2, ![N, L]⟩ .bf16) {i i' l l' : ℕ} (hi : i = i') (hl : l = l') : entry x i l = entry x i' l' := by
  rw [hi, hl]

/-- The first head's operands at a point. -/
theorem operands_0 (c : Dev nD) (t : Pt) : Operands (aq m c) (ak m c) (av m c) (sq t) (2 * pr t) (qn t) (kn t) (pr t * 128)
    (q0 (xq m c t)) (k00 (xk m c t)) (k01 (xk m c t)) (v0 (xv m c t)) (v1 (xv m c t)) where
  hQ r d := (q0_at _ r d).trans ((xq_at m c t _ _).trans (entry_congr _ rfl (by dsimp only; omega)))
  hK j d := (k00_at _ j d).trans ((xk_at m c t _ _).trans (entry_congr _ rfl (by dsimp only; omega)))
  hK' j d := (k01_at _ j d).trans ((xk_at m c t _ _).trans (entry_congr _ (by dsimp only; omega) (by dsimp only; omega)))
  hW j d := (v0_at _ j d).trans (xv_at m c t _ _)
  hW' j d := (v1_at _ j d).trans ((xv_at m c t _ _).trans (entry_congr _ (by dsimp only; omega) rfl))

/-- The second head's operands at a point. -/
theorem operands_1 (c : Dev nD) (t : Pt) : Operands (aq m c) (ak m c) (av m c) (sq t) (2 * pr t + 1) (qn t) (kn t) (pr t * 128)
    (q1 (xq m c t)) (k10 (xk m c t)) (k11 (xk m c t)) (v0 (xv m c t)) (v1 (xv m c t)) where
  hQ r d := (q1_at _ r d).trans ((xq_at m c t _ _).trans (entry_congr _ rfl (by dsimp only; omega)))
  hK j d := (k10_at _ j d).trans ((xk_at m c t _ _).trans (entry_congr _ rfl (by dsimp only; omega)))
  hK' j d := (k11_at _ j d).trans ((xk_at m c t _ _).trans (entry_congr _ (by dsimp only; omega) (by dsimp only; omega)))
  hW j d := (v0_at _ j d).trans (xv_at m c t _ _)
  hW' j d := (v1_at _ j d).trans ((xv_at m c t _ _).trans (entry_congr _ (by dsimp only; omega) rfl))

/-- Head `h` of a point holds the softmax of the first `n` keys of the point's rows. -/
abbrev At (c : Dev nD) (t : Pt) (h : ℕ) (H : Head Ideal) (n : ℕ) : Prop :=
  Holds H (fun r => score (aq m c) (ak m c) (sq t) h (qn t * 1024 + r.val)) (fun d => value (av m c) (sq t) (pr t * 128 + d.val)) n

/-- Both heads of a point. -/
abbrev Both (c : Dev nD) (t : Pt) (s : St Ideal) (n : ℕ) : Prop := At m c t (2 * pr t) s.1 n ∧ At m c t (2 * pr t + 1) s.2 n

/-- One point: from the prefix before its key block to the prefix through it. -/
theorem next_both (c : Dev nD) (t : Pt) (s : St Ideal) (hs : kn t ≠ 0 → Both m c t s (kn t * 1024)) :
    Both m c t (next m c t s) (kn t * 1024 + 512 + 512) := by
  obtain ⟨-, -, hle, hstart, hbelow⟩ := point_words t
  have h0 : Both m c t (if Start (ki Ideal t) then St.reset else s) (kn t * 1024) := by
    by_cases h : kn t = 0
    · rw [if_pos (hstart.2 h), h]
      exact ⟨reset_holds _ _, reset_holds _ _⟩
    · rw [if_neg fun hh => h (hstart.1 hh)]
      exact hs h
  unfold next
  by_cases h : kn t < qn t
  · simp only [if_pos (hbelow.2 h)]
    exact ⟨below_holds (operands_0 m c t) h h0.1, below_holds (operands_1 m c t) h h0.2⟩
  · have hn : ¬ Below (qi Ideal t) (ki Ideal t) := fun hh => h (hbelow.1 hh)
    simp only [if_neg hn]
    exact ⟨last_holds (operands_0 m c t) (by omega) h0.1, last_holds (operands_1 m c t) (by omega) h0.2⟩

/-- After every point. -/
theorem after_both (c : Dev nD) : ∀ (n : ℕ) (hn : n < (cfgA Ideal).N), Both m c ⟨n, hn⟩ (stAt m c (n + 1)) (kn ⟨n, hn⟩ * 1024 + 512 + 512) := by
  intro n
  induction n with
  | zero =>
    intro hn
    rw [stAt_succ m c ⟨0, hn⟩]
    refine next_both m c ⟨0, hn⟩ _ fun h => ?_
    rcases point_prev ⟨0, hn⟩ with h' | ⟨h', -⟩
    · exact absurd h' h
    · exact absurd h' (lt_irrefl 0)
  | succ n ih =>
    intro hn
    rw [stAt_succ m c ⟨n + 1, hn⟩]
    refine next_both m c ⟨n + 1, hn⟩ _ fun h => ?_
    rcases point_prev ⟨n + 1, hn⟩ with h' | ⟨-, h1, h2, h3, h4⟩
    · exact absurd h' h
    · have hp : prev ⟨n + 1, hn⟩ = ⟨n, Nat.lt_of_succ_lt hn⟩ := Fin.ext (Nat.add_sub_cancel n 1)
      rw [hp] at h1 h2 h3 h4
      have := ih (Nat.lt_of_succ_lt hn)
      unfold Both At at this ⊢
      rw [h1, h2, h3] at this
      rw [← h4]
      convert this using 2 <;> ring

end Cert.KernelIdeal.Flash

end
-- ==== Proof.RefRows.lean ====
module

public import proofs.«01_k».proof.Proof.Gen.ReferenceIdeal.Run
public import proofs.«01_k».proof.Proof.Causal
public import Idealize.ShloMosaic.Lib.WordCmp

/-!
  The reference, row by row: its result is the softmax of all keys of the row.
-/

@[expose] public section

set_option maxRecDepth 100000

noncomputable section

namespace Cert.ReferenceIdeal

open Cert.ReferenceIdeal Cert.ReferenceIdeal.Gen Cert.ReferenceIdeal.Value
open Idealize.ShloMosaic Idealize.ShloMosaic.Tactic
open Idealize.ShloMosaic.TcCoe
open Cert.Softmax (score value entry entry_ix2 ofBits_bot Finite attnRow)

/-- The scores of every query against every key, per sequence and head. -/
def scores (q k : FVec Ideal S32768x512 .bf16) : FVec Ideal S2x4x16384x16384 .f32 :=
  Host.dotGeneral dot_S2x16384x4x128_S2x16384x4x128_S2x4x16384x16384_3_3_1_1_02_02 none
    (shapeCast _ (extf .f32 q bitsLt_bf16_f32) shapeCasts_S32768x512_S2x16384x4x128)
    (shapeCast _ (extf .f32 k bitsLt_bf16_f32) shapeCasts_S32768x512_S2x16384x4x128)

/-- The scores with −∞ at every key after its query. -/
def masked (s : FVec Ideal S2x4x16384x16384 .f32) : FVec Ideal S2x4x16384x16384 .f32 :=
  select (broadcastInDim S2x4x16384x16384 ![2, 3] bcast_S16384x16384_S2x4x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))
    s (broadcastInDim S2x4x16384x16384 ![] bcast_S_S2x4x16384x16384 (id (constant S_ .f32 0xFF800000#32)))

/-- Each row's largest score, from −∞. -/
def foldMax (s : FVec Ideal S2x4x16384x16384 .f32) : FVec Ideal S2x4x16384 .f32 :=
  Host.reduce FloatOps.maximumf s (constant S_ .f32 0xFF800000#32) reducesTo_S2x4x16384x16384_S2x4x16384_d3 h_S_

/-- Each row's largest score, never below −∞. -/
def rowMax (s : FVec Ideal S2x4x16384x16384 .f32) : FVec Ideal S2x4x16384 .f32 :=
  maximumf (broadcastInDim S2x4x16384 ![] bcast_S_S2x4x16384 (constant S_ .f32 0xFF800000#32)) (foldMax s)

/-- A number per row, repeated along the keys. -/
def along (x : FVec Ideal S2x4x16384 .f32) : FVec Ideal S2x4x16384x16384 .f32 :=
  broadcastInDim S2x4x16384x16384 ![0, 1, 2, 3] bcast_S2x4x16384x1_S2x4x16384x16384_0_1_2_3 (broadcastInDim S2x4x16384x1 ![0, 1, 2] bcast_S2x4x16384_S2x4x16384x1_0_1_2 x)

/-- Each score's exponential relative to its row's largest. -/
def expo (s : FVec Ideal S2x4x16384x16384 .f32) : FVec Ideal S2x4x16384x16384 .f32 := Host.exp (subf s (along (rowMax s)))

/-- Each row's sum. -/
def rowSum (e : FVec Ideal S2x4x16384x16384 .f32) : FVec Ideal S2x4x16384 .f32 :=
  Host.reduceAdd e (constant S_ .f32 0x00000000#32) reducesTo_S2x4x16384x16384_S2x4x16384_d3 h_S_

/-- The weighted values, laid out as the result is. -/
def weighted (v : FVec Ideal S32768x256 .bf16) (p : FVec Ideal S2x4x16384x16384 .f32) : FVec Ideal S2x16384x256 .bf16 :=
  truncf .bf16 (shapeCast _ (transpose S2x16384x4x64 [0, 3, 1, 2] (Host.dotGeneral dot_S2x16384x4x64_S2x4x16384x16384_S2x4x64x16384_1_3_3_2_02_01 none
    (shapeCast _ (extf .f32 v bitsLt_bf16_f32) shapeCasts_S32768x256_S2x16384x4x64) p) transposes_S2x4x64x16384_S2x16384x4x64_0_3_1_2) shapeCasts_S2x16384x4x64_S2x16384x256) bitsLt_bf16_f32

/-- The reference's result from its three arguments. -/
def attn (q k : FVec Ideal S32768x512 .bf16) (v : FVec Ideal S32768x256 .bf16) : FVec Ideal S2x16384x256 .bf16 :=
  weighted v (Host.divf (expo (masked (scores q k))) (along (rowSum (expo (masked (scores q k))))))

theorem res_eq (m : (ℓ : Loc nD τ sig) → Buf (Elt Ideal) ℓ) (c : Dev nD) :
    res_main_v28 m c = attn (m ((c.tc : Thread nD τ).loc main_arg0)) (m ((c.tc : Thread nD τ).loc main_arg1)) (m ((c.tc : Thread nD τ).loc main_arg2)) := rfl

theorem scores_at (q k : FVec Ideal S32768x512 .bf16) (b : Fin 2) (h : Fin 4) (Q K : Fin 16384) :
    scores q k (ix4 b h Q K) = ∑ d : Fin 128, entry q (b.val * 16384 + Q.val) (h.val * 128 + d.val) * entry k (b.val * 16384 + K.val) (h.val * 128 + d.val) := by
  pointwise [scores]
  exact Finset.sum_congr rfl fun d _ => congrArg₂ (· * ·) (entry_ix2 q _ _) (entry_ix2 k _ _)

theorem masked_at (s : FVec Ideal S2x4x16384x16384 .f32) (b : Fin 2) (h : Fin 4) (Q K : Fin 16384) :
    masked s (ix4 b h Q K) = if K.val ≤ Q.val then s (ix4 b h Q K) else (⊥ : EReal) := by
  pointwise [masked]
  have e : (id (constant (F := Ideal) S_ .f32 0xFF800000#32) ix0) = (⊥ : EReal) := rfl
  rw [e]
  word_cmp

theorem foldMax_at (s : FVec Ideal S2x4x16384x16384 .f32) (b : Fin 2) (h : Fin 4) (Q : Fin 16384) :
    foldMax s (ix3 b h Q) = Finset.univ.fold max (⊥ : EReal) fun K : Fin 16384 => s (ix4 b h Q K) := by
  pointwise [foldMax]
  rw [ofBits_bot]

theorem rowMax_at (s : FVec Ideal S2x4x16384x16384 .f32) (b : Fin 2) (h : Fin 4) (Q : Fin 16384) :
    rowMax s (ix3 b h Q) = max (⊥ : EReal) (foldMax s (ix3 b h Q)) := by
  have e (x y : FVec Ideal S2x4x16384 .f32) (i : S2x4x16384.Idx) : maximumf x y i = max (show EReal from x i) (y i) := rfl
  have e' (i : S2x4x16384.Idx) : broadcastInDim S2x4x16384 ![] bcast_S_S2x4x16384 (constant (F := Ideal) S_ .f32 0xFF800000#32) i = (⊥ : EReal) := rfl
  unfold rowMax
  rw [e, e']

theorem along_at (x : FVec Ideal S2x4x16384 .f32) (b : Fin 2) (h : Fin 4) (Q K : Fin 16384) : along x (ix4 b h Q K) = x (ix3 b h Q) := by
  pointwise [along]

theorem rowSum_at (s : FVec Ideal S2x4x16384x16384 .f32) (b : Fin 2) (h : Fin 4) (Q : Fin 16384) :
    rowSum s (ix3 b h Q) = ∑ K : Fin 16384, (show EReal from s (ix4 b h Q K)) := by
  pointwise [rowSum]

theorem weighted_at (v : FVec Ideal S32768x256 .bf16) (p : FVec Ideal S2x4x16384x16384 .f32) (b : Fin 2) (Q : Fin 16384) (l : Fin 256) :
    weighted v p (ix3 b Q l) = ∑ K : Fin 16384, entry v (b.val * 16384 + K.val) l.val * (show EReal from p (ix4 b ⟨l.val / 64, by omega⟩ Q K)) := by
  pointwise [weighted]
  exact Finset.sum_congr rfl fun K _ => congrArg₂ (· * ·) (entry_ix2 v _ _) rfl

/-- The masked scores are the row's scores by key position. -/
theorem masked_scores (q k : FVec Ideal S32768x512 .bf16) (b : Fin 2) (h : Fin 4) (Q K : Fin 16384) :
    masked (scores q k) (ix4 b h Q K) = score q k b.val h.val Q.val K.val := by
  rw [masked_at, scores_at]; rfl

theorem rowMax_scores (q k : FVec Ideal S32768x512 .bf16) (b : Fin 2) (h : Fin 4) (Q : Fin 16384) :
    rowMax (masked (scores q k)) (ix3 b h Q) = Softmax.top (score q k b.val h.val Q.val) 16384 := by
  rw [rowMax_at, foldMax_at]
  have := Softmax.top_add (score q k b.val h.val Q.val) 0 16384
  rw [Softmax.top_zero] at this
  simp only [Nat.zero_add] at this
  rw [← this]
  simp only [masked_scores]

theorem expo_scores (q k : FVec Ideal S32768x512 .bf16) (b : Fin 2) (h : Fin 4) (Q K : Fin 16384) :
    expo (masked (scores q k)) (ix4 b h Q K) = Softmax.wt (score q k b.val h.val Q.val) 16384 K.val := by
  have e : expo (masked (scores q k)) (ix4 b h Q K)
      = Ideal.exp ((show EReal from masked (scores q k) (ix4 b h Q K)) - (show EReal from along (rowMax (masked (scores q k))) (ix4 b h Q K))) := rfl
  rw [e, along_at, rowMax_scores, masked_scores]; rfl

theorem rowSum_scores (q k : FVec Ideal S32768x512 .bf16) (b : Fin 2) (h : Fin 4) (Q : Fin 16384) :
    rowSum (expo (masked (scores q k))) (ix3 b h Q) = Softmax.norm (score q k b.val h.val Q.val) 16384 := by
  rw [rowSum_at]
  unfold Softmax.norm
  rw [Finset.sum_range]
  exact Finset.sum_congr rfl fun K _ => expo_scores q k b h Q K

/-- The reference's result at finite queries and keys. -/
theorem attn_at (q k : FVec Ideal S32768x512 .bf16) (v : FVec Ideal S32768x256 .bf16) (hq : Finite q) (hk : Finite k) (b : Fin 2) (Q : Fin 16384) (l : Fin 256) :
    attn q k v (ix3 b Q l) = attnRow q k v b.val Q.val l.val 16384 := by
  unfold attn attnRow
  rw [weighted_at, Softmax.div_acc _ _ _ (Softmax.norm_score_ne_zero q k hq hk b.val (l.val / 64) Q.val Q.2), Finset.sum_range]
  refine Finset.sum_congr rfl fun K _ => congrArg (_ * ·) ?_
  have e (x y : FVec Ideal S2x4x16384x16384 .f32) (i : S2x4x16384x16384.Idx) : Host.divf x y i = Ideal.div (x i) (y i) := rfl
  rw [e, along_at, rowSum_scores, expo_scores]

end Cert.ReferenceIdeal

end
-- ==== Proof.Value.lean ====
module

public import proofs.«01_k».proof.Proof.Invariant
public import proofs.«01_k».proof.Proof.RefRows

/-!
  The kernel's result array is the attention, row by row, and so is the reference's.
-/

@[expose] public section

set_option maxRecDepth 16384

noncomputable section

namespace Cert.KernelIdeal.Flash

open Cert.KernelIdeal Cert.KernelIdeal.Gen
open Idealize.ShloMosaic Idealize.ShloMosaic.Tactic
open Idealize.ShloMosaic.TcCoe
open Idealize.ShloMosaic.Pipeline (Dat Cfg Window)
open Cert.Softmax (entry entry_ix2 score value attnRow)

variable (m : (ℓ : Loc nD τ sig) → Buf (Elt Ideal) ℓ)

/-- The attention of the three arguments, as the result's array. -/
def attention (c : Dev nD) : FVec Ideal S2x16384x256 .bf16 := fun i => attnRow (aq m c) (ak m c) (av m c) (i 0).val (i 1).val (i 2).val 16384

/-- What a point on the diagonal writes back. -/
theorem result_row (c : Dev nD) (t : Pt) (hl : kn t = qn t) (r : Fin 1024) (d : Fin 128) :
    result (F := Ideal) (aft m c t).1 (aft m c t).2 (ix3 0 r d)
      = attnRow (aq m c) (ak m c) (av m c) (sq t) (qn t * 1024 + r.val) (pr t * 128 + d.val) 16384 := by
  obtain ⟨h1, h2, -⟩ := point_words t
  have h := after_both m c t.val t.2
  rw [result_at]
  rw [Softmax.attnRow_pad _ _ _ _ _ _ (n := kn t * 1024 + 512 + 512) (by omega) (by omega)]
  unfold attnRow
  by_cases hd : d.val < 64
  · rw [if_pos hd, show (pr t * 128 + d.val) / 64 = 2 * pr t by omega]
    exact congrArg₂ Ideal.div (h.1.2.2 r d) (h.1.2.1 r d)
  · rw [if_neg hd, show (pr t * 128 + d.val) / 64 = 2 * pr t + 1 by omega]
    exact congrArg₂ Ideal.div (h.2.2.2 r d) (h.2.2.1 r d)

/-- The result array after the run. -/
theorem final (c : Dev nD) : (dats m 0 c).arrAt (3 : Fin 4) (cfgA Ideal).N = attention m c := by
  refine (dats m 0 c).arrAt_eq_of_covers (3 : Fin 4) _ covers fun t hf y => ?_
  have hl : kn t = qn t := by
    obtain ⟨-, -, hle, -, hb⟩ := point_words t
    obtain ⟨-, hbl, -, hfl⟩ := facts t
    rw [hfl] at hf
    have := of_decide_eq_true hf
    by_contra hne
    exact (hbl.1 (hb.2 (by omega))) this
  blk_simp
  rw [after0_3]
  have y0 : (y 0).val < 1 := (y 0).isLt
  have e0 : ((((cfgA Ideal).win (3 : Fin 4)).blk t).view.emb y 0).val = sq t := by
    blk_simp [index_3 t]
    all_goals (trace_state; omega)
  have e1 : ((((cfgA Ideal).win (3 : Fin 4)).blk t).view.emb y 1).val = qn t * 1024 + (y 1).val := by
    blk_simp [index_3 t]
    all_goals (trace_state; omega)
  have e2 : ((((cfgA Ideal).win (3 : Fin 4)).blk t).view.emb y 2).val = pr t * 128 + (y 2).val := by
    blk_simp [index_3 t]
    all_goals (trace_state; omega)
  have hy : y = (ix3 0 (y 1) (y 2) : S1x1024x128.Idx) := by
    funext a
    match a with
    | ⟨0, _⟩ => exact Fin.ext (Nat.lt_one_iff.1 y0)
    | ⟨1, _⟩ => rfl
    | ⟨2, _⟩ => rfl
  have h := result_row m c t hl (y 1) (y 2)
  unfold attention
  rw [e0, e1, e2, ← h]
  exact congrArg (result (F := Ideal) (aft m c t).1 (aft m c t).2) hy

end Cert.KernelIdeal.Flash

end
-- ==== Proof.Algebraic.lean ====
module

public import proofs.«01_k».proof.Defs
public import proofs.«01_k».proof.Proof.Gen.Kernel
public import proofs.«01_k».proof.Proof.Value
public import Idealize.ShloMosaic.Lib.ReduceAll

/-!
  The value claim: from finite queries and keys both programs end with the attention of their arguments.
-/

@[expose] public section

set_option maxRecDepth 16384

noncomputable section

namespace Cert.Pre_finite_qk

open Idealize.ShloMosaic
open Cert.Softmax (Finite)

/-- The precondition's side conditions. -/
theorem facts : Facts where
  bitsLt_bf16_f32 := by decide
  bcast_S_S32768x512 := by decide
  reducesTo_S32768x512_S_d0_1 := by decide
  h_S_ := by decide

/-- A number whose absolute value is below +∞ is no infinity. -/
theorem ne_of_abs_lt (x : EReal) (h : max x (-x) < ⊤) : x ≠ ⊥ ∧ x ≠ ⊤ := by
  refine ⟨fun e => ?_, fun e => ?_⟩
  · rw [e, EReal.neg_bot, max_eq_right bot_le] at h; exact lt_irrefl _ h
  · rw [e, max_eq_left le_top] at h; exact lt_irrefl _ h

/-- An array whose absolute values all compare below +∞ is finite. -/
theorem finite_of (x : FVec Ideal S32768x512 .bf16)
    (h : ∀ i, FloatOps.cmpf (F := Ideal) .olt (max (show EReal from x i) (-(show EReal from x i))) (Ideal.ofBits .f32 0x7F800000#32) = 1#1) : Finite x := by
  intro i
  refine ne_of_abs_lt _ ?_
  have := h i
  have e : Ideal.ofBits .f32 0x7F800000#32 = (⊤ : EReal) := rfl
  rw [e] at this
  by_contra hn
  have e' : FloatOps.cmpf (F := Ideal) (φ := .f32) .olt (max (show EReal from x i) (-(show EReal from x i))) (⊤ : EReal)
      = BitVec.ofBool (decide (max (show EReal from x i) (-(show EReal from x i)) < ⊤)) := rfl
  rw [e', decide_eq_false hn] at this
  exact absurd this (by decide)

/-- The precondition is the finiteness of queries and keys. -/
theorem finite (q k : FVec Ideal S32768x512 .bf16) (v : FVec Ideal S32768x256 .bf16) (h : @fn facts Ideal _ q k v = fun _ => 1#1) :
    Finite q ∧ Finite k := by
  have h0 := congrFun h (ix0 : S_.Idx)
  have hs : Subsingleton S_.Idx := ⟨fun a b => funext fun d => d.elim0⟩
  obtain ⟨h1, h2⟩ := IntOp.andi_eq_one.1 h0
  exact ⟨finite_of q fun i => Host.reduce_andi_all _ _ _ _ _ h1 i, finite_of k fun i => Host.reduce_andi_all _ _ _ _ _ h2 i⟩

end Cert.Pre_finite_qk

namespace Cert.Proof

open Idealize.ShloMosaic Idealize.SL.Sem

theorem frame_KernelIdeal_pre : Cert.quiescent_KernelIdeal_pre_finite_qk (hPre_finite_qk := Cert.Pre_finite_qk.facts) :=
  fun m g _ => frame_KernelIdeal m g trivial

theorem frame_ReferenceIdeal_pre : Cert.quiescent_ReferenceIdeal_pre_finite_qk (hPre_finite_qk := Cert.Pre_finite_qk.facts) :=
  fun m g _ => frame_ReferenceIdeal m g trivial

/-- The kernel's array is the reference's, at finite queries and keys. -/
theorem attention_eq (q k : FVec Ideal Cert.KernelIdeal.S32768x512 .bf16) (v : FVec Ideal Cert.KernelIdeal.S32768x256 .bf16)
    (hq : Cert.Softmax.Finite q) (hk : Cert.Softmax.Finite k) :
    Cert.ReferenceIdeal.attn q k v = fun i => Cert.Softmax.attnRow q k v (i 0).val (i 1).val (i 2).val 16384 := by
  funext i
  idx_vars i
  exact Cert.ReferenceIdeal.attn_at q k v hq hk _ _ _

theorem algebraic : Cert.algebraic_KernelIdeal_ReferenceIdeal_pre_finite_qk (hPre_finite_qk := Cert.Pre_finite_qk.facts) := by
  intro m g m' g' hpre hagree
  refine ⟨fun c => Cert.KernelIdeal.Flash.attention m c, ?_, ?_⟩
  · exact (θ_run _ _ _).mono (fun r h c => ⟨(h.1 c).1.trans (Cert.KernelIdeal.Flash.final m c), (h.1 c).2⟩) (Cert.KernelIdeal.Flash.run_result m g)
  · refine (θ_run _ _ _).mono (fun r h c => ⟨(h c).1.trans ?_, (h c).2⟩) (Cert.ReferenceIdeal.Value.run m' g')
    obtain ⟨e0, e1, e2⟩ := hagree c
    obtain ⟨hq, hk⟩ := Cert.Pre_finite_qk.finite _ _ _ (hpre c)
    rw [Cert.ReferenceIdeal.res_eq, e0, e1, e2]
    exact attention_eq _ _ _ hq hk

end Cert.Proof

end
-- ==== Proof.ExpertTwin.lean ====
module

public import proofs.«01_k».proof.Defs
public import proofs.«01_k».proof.Proof.Gen.Kernel2
public import proofs.«01_k».proof.Proof.Gen.Kernel2Ideal
public import Idealize.ShloMosaic.Lib.Tactic
public import Idealize.ShloMosaic.Lib.Ring

/-!
  The experts' call printed twice: the two programs are one, so a frame of one is a frame of the other.
-/

@[expose] public section

set_option maxRecDepth 16384

noncomputable section

namespace Cert.Proof

open Idealize.ShloMosaic Idealize.SL.Sem

/-- The frame of the one program is the frame of the other. -/
theorem twin2 : (∀ (m : (ℓ : Loc Cert.Kernel2Ideal.nD Cert.Kernel2Ideal.τ Cert.Kernel2Ideal.sig) → Buf (Elt Bits) ℓ) (g : Dev Cert.Kernel2Ideal.nD → PrngReg),
    (∀ (c : Dev Cert.Kernel2Ideal.nD) (x : Cert.Kernel2Ideal.S136.Idx), ((m ((c.tc : Thread Cert.Kernel2Ideal.nD Cert.Kernel2Ideal.τ).loc Cert.Kernel2Ideal.main_arg1) : IVec Cert.Kernel2Ideal.S136 32) x).toNat < 8) →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)) = (∀ (m : (ℓ : Loc Cert.Kernel2.nD Cert.Kernel2.τ Cert.Kernel2.sig) → Buf (Elt Bits) ℓ) (g : Dev Cert.Kernel2.nD → PrngReg),
    (∀ (c : Dev Cert.Kernel2.nD) (x : Cert.Kernel2.S136.Idx), ((m ((c.tc : Thread Cert.Kernel2.nD Cert.Kernel2.τ).loc Cert.Kernel2.main_arg1) : IVec Cert.Kernel2.S136 32) x).toNat < 8) →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)) := by sl_kernel_rfl

end Cert.Proof

end
-- ==== Proof.ExpertRuns.lean ====
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Pipeline.ReadBack
public import Idealize.ShloMosaic.Lib.Pipeline.ValueKit
public import Idealize.ShloMosaic.Lib.Ring
public import Idealize.ShloMosaic.Lib.Exec
public import Idealize.ShloMosaic.Lib.Affine
public import Idealize.ShloMosaic.Lib.Tactic

/-!
  The body of the experts' call, run once per control path on symbolic staging buffers.

  A grid point is a block of 512 rows and a tile of 512 hidden features. The first tile's point fills the output block with
  zeros; a point of a used block adds its tile's part of the expert's answer; a point of an unused block adds nothing.
-/

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts. -/
abbrev tbE : Memref sig .tc .smem S136 .i32 := Memref.whole main_arg1
/-- The number of used blocks, a table of one word. -/
abbrev tbN : Memref sig .tc .smem S1 .i32 := Memref.whole main_arg2

/-- The word of the second table, as the body reads it. -/
abbrev usedWord (T : S1.Idx → Elt F .i32) : BitVec 32 :=
  View.readAt (Elt F) tbN.view (Rect.unit (s := S1) ![0] S1.size inb_S1_S1_0).toLoadRect T (Shape.Idx.first (numel1_S1.symm ▸ Nat.one_pos))

/-- The output block's zeros. -/
def zeros : Vec F S512x1024 .f32 := k0_pay1

/-- A tile's part of the expert's answer, added to `y`. -/
def addPart (x0 : Vec F S512x1024 .f32) (x1 x2 : Vec F S1x1024x512 .bf16) (x3 : Vec F S1x512x1024 .bf16) (y : Vec F S512x1024 .f32) : Vec F S512x1024 .f32 :=
  k0_pay2 x0 x1 x2 y x3

open Classical in
/-- One grid point's effect on the output block: zeros at the first tile, then a used block's part. -/
def step (i : grid0.Coords) (w : BitVec 32) (x0 : Vec F S512x1024 .f32) (x1 x2 : Vec F S1x1024x512 .bf16) (x3 : Vec F S1x512x1024 .bf16) (y : Vec F S512x1024 .f32) :
    Vec F S512x1024 .f32 :=
  let z := if k0_cond1 i = 1#1 then zeros else y
  if k0_cond2 i w = 1#1 then addPart x0 x1 x2 x3 z else z

section Body

variable (c : Dev nD) (i : grid0.Coords)
  (arg4 : Memref sig .tc .vmem S512x1024 .f32) (harg4 : arg4.IsWhole) (arg5 : Memref sig .tc .vmem S1x1024x512 .bf16) (harg5 : arg5.IsWhole)
  (arg6 : Memref sig .tc .vmem S1x1024x512 .bf16) (harg6 : arg6.IsWhole) (arg7 : Memref sig .tc .vmem S1x512x1024 .bf16) (harg7 : arg7.IsWhole)
  (arg8 : Memref sig .tc .vmem S512x1024 .f32) (harg8 : arg8.IsWhole)
  (T0 : S136.Idx → Elt F .i32) (T1 : S1.Idx → Elt F .i32)
  (x0 : S512x1024.Idx → Elt F .f32) (x1 x2 : S1x1024x512.Idx → Elt F .bf16) (x3 : S1x512x1024.Idx → Elt F .bf16)

/-- What the body only reads: the four input blocks and its half of the two tables. -/
abbrev Inputs : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tbE.view.loc (c : Thread nD τ) ↦{fullShare.right} T0)
    ∗ (tbN.view.loc (c : Thread nD τ) ↦{fullShare.right} T1))

/-- The body runs to any continuation that its inputs and the output's buffer, going from `y` to `y'`, suffice for. -/
abbrev Runs (y y' : S512x1024.Idx → Elt F .f32) : Prop :=
  ∀ K : PUnit → sProp 𝕄,
    iprop(Inputs c arg4 arg5 arg6 arg7 T0 T1 x0 x1 x2 x3 ∗ (arg8.view.loc (c : Thread nD τ) ↦[arg8.view.set]{fullShare} arg8.view.rep y)
      ∗ (iprop(Inputs c arg4 arg5 arg6 arg7 T0 T1 x0 x1 x2 x3 ∗ (arg8.view.loc (c : Thread nD τ) ↦[arg8.view.set]{fullShare} arg8.view.rep y')) -∗ K ⟨⟩))
      ⊢ wp frame (wpE (defs₀ (F := F)) Variants.none c none) Set.univ
          (cc0_moe_experts i tbE (Memref.isWhole_whole _) tbN (Memref.isWhole_whole _) arg4 harg4 arg5 harg5 arg6 harg6 arg7 harg7 arg8 harg8) K

/-- A put of the whole block leaves its payload. -/
theorem put_all (x w : S512x1024.Idx → Elt F .f32) : VecWindow.put x ![0, 0] S512x1024.size w = w := by
  funext y
  have e0 := (y 0).isLt
  have e1 := (y 1).isLt
  unfold VecWindow.put
  rw [dif_pos fun a => ⟨by fin_cases a <;> exact Nat.zero_le _, by fin_cases a <;> simp <;> first | exact e0 | exact e1⟩]
  congr 1
  funext a
  exact Fin.ext (by fin_cases a <;> rfl)

/-- A block stored whole over anything is the block. -/
theorem writes_all {M : Memref sig .tc .vmem S512x1024 .f32} (hM : M.IsWhole) (f : M.view.ty.Contents (Elt F)) (w : Vec F S512x1024 .f32) (inb)
    (L : List (View.Piece (Elt F) S512x1024 .f32)) :
    M.view.writes (Elt F) f (⟨Rect.unit ![0, 0] S512x1024.size inb, w⟩ :: L) = M.view.rep w := by
  refine (hM.eq_unread ?_).trans (hM.eq_unread (View.read_rep _ _)).symm
  rw [View.read_writes_cons_put _ _ inb w _ rfl, put_all]

/-- A whole block's load is the block. -/
theorem ld_rows (x : S512x1024.Idx → Elt F .f32) : View.ld (Val := Elt F) (e' := .f32) x (Rect.unit (s := S512x1024) ![0, 0] ![512, 1024] inb_S512x1024_S512x1024_0_0) = x := by
  funext y
  exact congrArg x (funext fun a => Fin.ext (by fin_cases a <;> simp))
theorem ld_in (x : S1x1024x512.Idx → Elt F .bf16) : View.ld (Val := Elt F) (e' := .bf16) x (Rect.unit (s := S1x1024x512) ![0, 0, 0] ![1, 1024, 512] inb_S1x1024x512_S1x1024x512_0_0_0) = x := by
  funext y
  exact congrArg x (funext fun a => Fin.ext (by fin_cases a <;> simp))
theorem ld_down (x : S1x512x1024.Idx → Elt F .bf16) : View.ld (Val := Elt F) (e' := .bf16) x (Rect.unit (s := S1x512x1024) ![0, 0, 0] ![1, 512, 1024] inb_S1x512x1024_S1x512x1024_0_0_0) = x := by
  funext y
  exact congrArg x (funext fun a => Fin.ext (by fin_cases a <;> simp))

set_option maxHeartbeats 8000000 in
/-- The first tile of an unused block: zeros. -/
theorem run_first_unused (hc1 : k0_cond1 i = 1#1) (hc2 : ¬k0_cond2 i (usedWord (F := F) T1) = 1#1) (y : S512x1024.Idx → Elt F .f32) :
    Runs c i arg4 harg4 arg5 harg5 arg6 harg6 arg7 harg7 arg8 harg8 T0 T1 x0 x1 x2 x3 y zeros := fun K => by
  rw [cc0_moe_experts_eq_skeleton]; unfold cc0_moe_experts_skel
  iintro ⟨⟨H0, H1, H2, H3, HT0, HT1⟩, HO, Hk⟩
  have hT1 : tbN.IsWhole := Memref.isWhole_whole _
  sl_exec! (disch := first | (guard_target = k0_cond1 _ = _; exact hc1) | (guard_target = ¬(k0_cond2 _ _ = _); exact hc2))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  sl_unfold_words
  rw [writes_all harg8]
  unfold zeros
  iexact HO

set_option maxHeartbeats 8000000 in
/-- The first tile of a used block: its part, on zeros. -/
theorem run_first_used (hc1 : k0_cond1 i = 1#1) (hc2 : k0_cond2 i (usedWord (F := F) T1) = 1#1) (y : S512x1024.Idx → Elt F .f32) :
    Runs c i arg4 harg4 arg5 harg5 arg6 harg6 arg7 harg7 arg8 harg8 T0 T1 x0 x1 x2 x3 y (addPart x0 x1 x2 x3 zeros) := fun K => by
  rw [cc0_moe_experts_eq_skeleton]; unfold cc0_moe_experts_skel
  iintro ⟨⟨H0, H1, H2, H3, HT0, HT1⟩, HO, Hk⟩
  have hT1 : tbN.IsWhole := Memref.isWhole_whole _
  sl_exec! (disch := first | (guard_target = k0_cond1 _ = _; exact hc1) | (guard_target = k0_cond2 _ _ = _; exact hc2))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  sl_unfold_words
  rw [writes_all harg8]
  simp (disch := decide) only [↓ View.readCov_skip, ↓ View.readCov_cons_toLoadRect, ↓ View.readCov_fill]
  simp only [View.readAt_eq_ld, View.read_rep, ld_rows, ld_in, ld_down]
  unfold addPart zeros
  iexact HO

set_option maxHeartbeats 8000000 in
/-- A later tile of a used block: its part, on what was there. -/
theorem run_later_used (hc1 : ¬k0_cond1 i = 1#1) (hc2 : k0_cond2 i (usedWord (F := F) T1) = 1#1) (y : S512x1024.Idx → Elt F .f32) :
    Runs c i arg4 harg4 arg5 harg5 arg6 harg6 arg7 harg7 arg8 harg8 T0 T1 x0 x1 x2 x3 y (addPart x0 x1 x2 x3 y) := fun K => by
  rw [cc0_moe_experts_eq_skeleton]; unfold cc0_moe_experts_skel
  iintro ⟨⟨H0, H1, H2, H3, HT0, HT1⟩, HO, Hk⟩
  have hT1 : tbN.IsWhole := Memref.isWhole_whole _
  sl_exec! (disch := first | (guard_target = ¬(k0_cond1 _ = _); exact hc1) | (guard_target = k0_cond2 _ _ = _; exact hc2))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  sl_unfold_words
  rw [writes_all harg8]
  simp only [View.readAt_eq_ld, View.read_rep, ld_rows, ld_in, ld_down]
  unfold addPart
  iexact HO

set_option maxHeartbeats 8000000 in
/-- A later tile of an unused block: nothing. -/
theorem run_later_unused (hc1 : ¬k0_cond1 i = 1#1) (hc2 : ¬k0_cond2 i (usedWord (F := F) T1) = 1#1) (y : S512x1024.Idx → Elt F .f32) :
    Runs c i arg4 harg4 arg5 harg5 arg6 harg6 arg7 harg7 arg8 harg8 T0 T1 x0 x1 x2 x3 y y := fun K => by
  rw [cc0_moe_experts_eq_skeleton]; unfold cc0_moe_experts_skel
  iintro ⟨⟨H0, H1, H2, H3, HT0, HT1⟩, HO, Hk⟩
  have hT1 : tbN.IsWhole := Memref.isWhole_whole _
  sl_exec! (disch := first | (guard_target = ¬(k0_cond1 _ = _); exact hc1) | (guard_target = ¬(k0_cond2 _ _ = _); exact hc2))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  iexact HO

/-- The body at any grid point. -/
theorem run_point (y : S512x1024.Idx → Elt F .f32) :
    Runs c i arg4 harg4 arg5 harg5 arg6 harg6 arg7 harg7 arg8 harg8 T0 T1 x0 x1 x2 x3 y (step i (usedWord (F := F) T1) x0 x1 x2 x3 y) := by
  unfold step
  by_cases h1 : k0_cond1 i = 1#1 <;> by_cases h2 : k0_cond2 i (usedWord (F := F) T1) = 1#1
  · simp only [if_pos h1, if_pos h2]; exact run_first_used c i _ _ _ _ _ _ _ _ _ _ T0 T1 x0 x1 x2 x3 h1 h2 y
  · simp only [if_pos h1, if_neg h2]; exact run_first_unused c i _ _ _ _ _ _ _ _ _ _ T0 T1 x0 x1 x2 x3 h1 h2 y
  · simp only [if_neg h1, if_pos h2]; exact run_later_used c i _ _ _ _ _ _ _ _ _ _ T0 T1 x0 x1 x2 x3 h1 h2 y
  · simp only [if_neg h1, if_neg h2]; exact run_later_unused c i _ _ _ _ _ _ _ _ _ _ T0 T1 x0 x1 x2 x3 h1 h2 y

end Body

end Cert.Kernel2Ideal.Experts
-- ==== Proof.ExpertFrame.lean ====
module

public import proofs.«01_k».proof.Proof.ExpertRuns
public import Idealize.ShloMosaic.Lib.Pipeline.Frame
public import Idealize.ShloMosaic.Lib.Claim
public import Idealize.ShloMosaic.Adequacy
public import Idealize.ShloMosaic.Init

/-!
  The whole run of the experts' call, at any admissible tables.

  The output block before each grid point is a recursion over the points. A block's seven points follow each other, the first
  fills the buffer with zeros, and after the seventh the buffer is written back, so the buffer always holds that state.
-/

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid -/

theorem first_iff : ∀ t : Fin grid0.N, k0_cond1 (grid0.coords t) = 1#1 ↔ t.val % 7 = 0 := by decide +kernel

theorem flush_dec : ∀ t : Fin grid0.N, (decide (t.val + 1 = grid0.N)
    || decide (∃ h : t.val + 1 < grid0.N, cc0_transform_4 (grid0.coords ⟨t.val + 1, h⟩) ≠ cc0_transform_4 (grid0.coords t))) = decide (t.val % 7 = 6) := by
  decide +kernel

theorem coords_dec : ∀ t : Fin grid0.N, (grid0.coords t 0).val = t.val / 7 ∧ (grid0.coords t 1).val = t.val % 7 := by decide +kernel

/-! ## The proof data -/

variable (m : (ℓ : Loc nD τ sig) → Buf (Elt F) ℓ) (g : Dev nD → PrngReg) (a : (pcfg0 (F := F)).Adm)

/-- The pipeline at the tables. -/
abbrev cfgA : Pipeline.Cfg sig Λ₀ := cfg0 (F := F) a

/-- The grid coordinates of a point. -/
abbrev crd (t : Fin (cfgA a).N) : (cfgA a).grid.Coords := (cfgA a).grid.coords t

/-- The output is written back at a block's last point. -/
theorem flush_eq (t : Fin (cfgA a).N) : ((cfgA a).win (4 : Fin 5)).flush t = decide (t.val % 7 = 6) := flush_dec t

/-- The two tables. -/
abbrev tabE : S136.Idx → Elt F .i32 := a.1 0
abbrev tabN : S1.Idx → Elt F .i32 := a.1 1

/-- The number of used blocks. -/
abbrev nUsed : BitVec 32 := usedWord (F := F) (tabN a)

theorem atD_eq : (a.1.atD 1 ![0] : BitVec 32) = nUsed a :=
  (dif_pos (show ∀ b : Fin 1, (![0] : Fin 1 → ℕ) b + 1 ≤ S1.size b by decide)).trans rfl

/-- The buffers when the pipeline starts: after the host's operations. -/
abbrev V (c : Dev nD) (b : Ref sig .tc) : Buf (Elt F) ((c.tc : Thread nD τ).loc b) := StableHlo.after hostOps0 (fun b => m (c, b)) b

abbrev ms0_0 (t : Fin (cfgA a).N) : Memref sig .tc .vmem S512x1024 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1024x512 .bf16 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1024x512 .bf16 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x512x1024 .bf16 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x1024 .f32 := spec0_4.stage ((cfgA a).slots t (4 : Fin 5))
abbrev hs0_4 (t : Fin (cfgA a).N) : (ms0_4 a t).IsWhole := hstage0_4 (((cfgA a).slots t (4 : Fin 5)).cast nbuf0_4)

/-- The block of window `w`'s array at a point. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef (cfgA a).spec w))

/-- A point's rows. -/
abbrev xr (c : Dev nD) (t : Fin (cfgA a).N) : S512x1024.Idx → Elt F .f32 := iblk m a c (0 : Fin 5) t
/-- A point's tile of the gate's weights. -/
abbrev xg (c : Dev nD) (t : Fin (cfgA a).N) : S1x1024x512.Idx → Elt F .bf16 := iblk m a c (1 : Fin 5) t
/-- A point's tile of the weights up. -/
abbrev xu (c : Dev nD) (t : Fin (cfgA a).N) : S1x1024x512.Idx → Elt F .bf16 := iblk m a c (2 : Fin 5) t
/-- A point's tile of the weights down. -/
abbrev xd (c : Dev nD) (t : Fin (cfgA a).N) : S1x512x1024.Idx → Elt F .bf16 := iblk m a c (3 : Fin 5) t

/-- One point's step. -/
def next (c : Dev nD) (t : Fin (cfgA a).N) (y : S512x1024.Idx → Elt F .f32) : S512x1024.Idx → Elt F .f32 :=
  step (crd a t) (nUsed a) (xr m a c t) (xg m a c t) (xu m a c t) (xd m a c t) y

/-- The output block before point `n`. -/
def accAt (c : Dev nD) : ℕ → S512x1024.Idx → Elt F .f32
  | 0 => zeros
  | n + 1 => if h : n < (cfgA a).N then next m a c ⟨n, h⟩ (accAt c n) else accAt c n

theorem accAt_succ (c : Dev nD) (t : Fin (cfgA a).N) : accAt m a c (t.val + 1) = next m a c t (accAt m a c t.val) := by
  rw [accAt, dif_pos t.isLt]

/-- The tables' halves and the generator register. -/
def Phi (c : Dev nD) : sProp 𝕄 :=
  iprop(((tbE.view.loc (c : Thread nD τ) ↦{fullShare.right} tabE a) ∗ (tbN.view.loc (c : Thread nD τ) ↦{fullShare.right} tabN a)) ∗ ∃ r, prngReg c r)

/-- The proof data of the pipeline. -/
def dats (_ : Fin 1) (c : Dev nD) : Dat τ (Elt F) Unit ℕ (UR sig nD τ) ℕ (cfgA a) c where
  A w := V m c (Pipeline.arrRef (cfgA a).spec w)
  after w t := match w with
    | ⟨0, _⟩ => iblk m a c (0 : Fin 5) t
    | ⟨1, _⟩ => iblk m a c (1 : Fin 5) t
    | ⟨2, _⟩ => iblk m a c (2 : Fin 5) t
    | ⟨3, _⟩ => iblk m a c (3 : Fin 5) t
    | ⟨4, _⟩ => accAt m a c (t.val + 1)
  Φ t := Phi a c
  q _ := fullShare
  owed _ := 0

theorem dats_Φ (c : Dev nD) (t : Fin ((cfgA a).N + 1)) : (dats m a 0 c).Φ t = Phi a c := rfl
theorem owes_succ (c : Dev nD) (t : Fin (cfgA a).N) : (dats m a 0 c).owesAt () t.succ = (dats m a 0 c).owesAt () t.castSucc := rfl
theorem after0_0 (c : Dev nD) (t : Fin (cfgA a).N) : (dats m a 0 c).after (0 : Fin 5) t = iblk m a c (0 : Fin 5) t := rfl
theorem after0_1 (c : Dev nD) (t : Fin (cfgA a).N) : (dats m a 0 c).after (1 : Fin 5) t = iblk m a c (1 : Fin 5) t := rfl
theorem after0_2 (c : Dev nD) (t : Fin (cfgA a).N) : (dats m a 0 c).after (2 : Fin 5) t = iblk m a c (2 : Fin 5) t := rfl
theorem after0_3 (c : Dev nD) (t : Fin (cfgA a).N) : (dats m a 0 c).after (3 : Fin 5) t = iblk m a c (3 : Fin 5) t := rfl
theorem after0_4 (c : Dev nD) (t : Fin (cfgA a).N) : (dats m a 0 c).after (4 : Fin 5) t = accAt m a c (t.val + 1) := rfl

theorem before0_0 (c : Dev nD) (t : Fin (cfgA a).N) (d) : (dats m a 0 c).before (0 : Fin 5) t d = iblk m a c (0 : Fin 5) t :=
  ((dats m a 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats m a 0 c).before (1 : Fin 5) t d = iblk m a c (1 : Fin 5) t :=
  ((dats m a 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats m a 0 c).before (2 : Fin 5) t d = iblk m a c (2 : Fin 5) t :=
  ((dats m a 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats m a 0 c).before (3 : Fin 5) t d = iblk m a c (3 : Fin 5) t :=
  ((dats m a 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Whether the output's buffer is left alone at a point. -/
theorem idle_eq (t : Fin (cfgA a).N) :
    (cfgA a).idle (4 : Fin 5) ((cfgA a).grid.coords t) = (!(k0_cond1 (crd a t) == 1#1) && !(k0_cond2 (crd a t) (nUsed a) == 1#1)) := by
  rw [← atD_eq]

/-- The output's buffer is fresh at most before a block's first point. -/
theorem fresh_first : ∀ n, n ≤ (cfgA a).N → (cfgA a).fresh (4 : Fin 5) n = true → n % 7 = 0
  | 0, _, _ => rfl
  | n + 1, h, hf => by
    rw [Pipeline.Cfg.fresh_succ _ _ n h, flush_eq, idle_eq, Bool.or_eq_true, Bool.and_eq_true] at hf
    rcases hf with hf | ⟨hi, hf⟩
    · have : n % 7 = 6 := of_decide_eq_true hf
      omega
    · have h0 := fresh_first n (Nat.le_of_lt h) hf
      have h1 : k0_cond1 (crd a ⟨n, h⟩) = 1#1 := (first_iff ⟨n, h⟩).mpr h0
      rw [h1, Bool.and_eq_true] at hi
      exact absurd hi.1 (by decide)

/-- A point where the output's buffer is left alone does not change the state. -/
theorem next_idle (c : Dev nD) (t : Fin (cfgA a).N) (h : (cfgA a).idle (4 : Fin 5) ((cfgA a).grid.coords t) = true) (y) : next m a c t y = y := by
  rw [idle_eq, Bool.and_eq_true] at h
  have h1 : ¬k0_cond1 (crd a t) = 1#1 := fun h' => by rw [h'] at h; exact absurd h.1 (by decide)
  have h2 : ¬k0_cond2 (crd a t) (nUsed a) = 1#1 := fun h' => by rw [h'] at h; exact absurd h.2 (by decide)
  unfold next step
  simp only [if_neg h1, if_neg h2]

/-- A block's first point does not read the state. -/
theorem next_first (c : Dev nD) (t : Fin (cfgA a).N) (h : t.val % 7 = 0) (y y') : next m a c t y = next m a c t y' := by
  unfold next step
  simp only [if_pos ((first_iff t).mpr h)]

/-- From what the buffer holds before a point, the point leaves the next state. -/
theorem next_before (c : Dev nD) (t : Fin (cfgA a).N) (d) : next m a c t ((dats m a 0 c).before (4 : Fin 5) t d) = accAt m a c (t.val + 1) := by
  rw [accAt_succ]
  by_cases h0 : t.val % 7 = 0
  · exact next_first m a c t h0 _ _
  congr 1
  have hf : (cfgA a).fresh (4 : Fin 5) t.val = false := by
    cases h : (cfgA a).fresh (4 : Fin 5) t.val
    · rfl
    · exact absurd (fresh_first a t.val (Nat.le_of_lt t.isLt) h) h0
  have ht : t.val ≠ 0 := fun h => h0 (by rw [h])
  rw [(dats m a 0 c).before_out_traj (4 : Fin 5) rfl (fun _ _ => rfl)
    (fun t ht hi _ => by
      rw [after0_4, after0_4, accAt_succ, next_idle m a c t hi]
      exact congrArg (accAt m a c) (by simp only; omega)) t.val t rfl d,
    if_neg (by rw [hf]; decide), after0_4]
  exact congrArg (accAt m a c) (by simp only; omega)

/-- The body at point `t`, as the pipeline calls it. -/
abbrev bodyAt (t : Fin (cfgA a).N) : Prog (TpuEff nD τ sig (Elt F) Λ₀ .tc) PUnit :=
  cc0_moe_experts (crd a t) tbE (Memref.isWhole_whole _) tbN (Memref.isWhole_whole _) (ms0_0 a t) (hs0_0 a t) (ms0_1 a t) (hs0_1 a t) (ms0_2 a t) (hs0_2 a t)
    (ms0_3 a t) (hs0_3 a t) (ms0_4 a t) (hs0_4 a t)

/-- What the body must leave of the output's buffer. -/
theorem leave (c : Dev nD) (t : Fin (cfgA a).N) (d) :
    owns (c : Thread nD τ) (ms0_4 a t) fullShare (next m a c t ((dats m a 0 c).before (4 : Fin 5) t d)) ⊢
      (match (cfgA a).idle (4 : Fin 5) ((cfgA a).grid.coords t) with
        | true =>
          match ((cfgA a).win (4 : Fin 5)).flush t with
          | false => iprop(∃ d, owns (c : Thread nD τ) (((cfgA a).win (4 : Fin 5)).stage ((cfgA a).slots t (4 : Fin 5))) fullShare ((dats m a 0 c).before (4 : Fin 5) t d))
          | true => owns (c : Thread nD τ) (((cfgA a).win (4 : Fin 5)).stage ((cfgA a).slots t (4 : Fin 5))) fullShare ((dats m a 0 c).after (4 : Fin 5) t)
        | false => owns (c : Thread nD τ) (((cfgA a).win (4 : Fin 5)).stage ((cfgA a).slots t (4 : Fin 5))) fullShare ((dats m a 0 c).after (4 : Fin 5) t) : sProp 𝕄) := by
  cases hi : (cfgA a).idle (4 : Fin 5) ((cfgA a).grid.coords t)
  · rw [next_before]; exact .rfl
  · cases ((cfgA a).win (4 : Fin 5)).flush t
    · rw [next_idle m a c t hi]
      iintro H; iexists d; iexact H
    · rw [next_before]; exact .rfl

set_option maxHeartbeats 4000000 in
/-- The body at any point. -/
theorem sound_body (c : Dev nD) (t : Fin (cfgA a).N) :
    iprop((dats m a 0 c).Φ t.castSucc ∗ (dats m a 0 c).owesAt () t.castSucc
        ∗ (∃ d, owns (c : Thread nD τ) (ms0_0 a t) fullShare ((dats m a 0 c).before (0 : Fin 5) t d))
        ∗ (∃ d, owns (c : Thread nD τ) (ms0_1 a t) fullShare ((dats m a 0 c).before (1 : Fin 5) t d))
        ∗ (∃ d, owns (c : Thread nD τ) (ms0_2 a t) fullShare ((dats m a 0 c).before (2 : Fin 5) t d))
        ∗ (∃ d, owns (c : Thread nD τ) (ms0_3 a t) fullShare ((dats m a 0 c).before (3 : Fin 5) t d))
        ∗ (∃ d, owns (c : Thread nD τ) (ms0_4 a t) fullShare ((dats m a 0 c).before (4 : Fin 5) t d)))
      ⊢ wp frame (wpE (defs₀ (F := F)) Variants.none c none) Set.univ (bodyAt a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  simp only [before0_0, before0_1, before0_2, before0_3, after0_0, after0_1, after0_2, after0_3]
  rewrite [dats_Φ, dats_Φ, owes_succ]
  unfold Phi
  iintro ⟨⟨⟨HT0, HT1⟩, Hg⟩, Ho, ⟨%d0, H0⟩, ⟨%d1, H1⟩, ⟨%d2, H2⟩, ⟨%d3, H3⟩, ⟨%d4, H4⟩⟩
  iapply (run_point c (crd a t) (ms0_0 a t) (hs0_0 a t) (ms0_1 a t) (hs0_1 a t) (ms0_2 a t) (hs0_2 a t) (ms0_3 a t) (hs0_3 a t) (ms0_4 a t) (hs0_4 a t)
    (tabE a) (tabN a) (xr m a c t) (xg m a c t) (xu m a c t) (xd m a c t) _ _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iapply rep_of_owns; iexact H4
  iintro ⟨⟨H0, H1, H2, H3, HT0, HT1⟩, H4⟩
  isplitl [HT0 HT1 Hg]
  · isplitl [HT0 HT1]
    · isplitl [HT0]; · iexact HT0
      iexact HT1
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iapply (leave m a c t d4)
  iapply owns_of_rep
  iexact H4

theorem body_obligation (c : Dev nD) : BodyObligation (dats m a 0 c) (defs₀ (F := F)) Variants.none () Set.univ := fun t => by
  rw [bigSep_W0]
  exact sound_body m a c t

theorem share_eq (c : Dev nD) (w : Fin (cfgA a).W) : (dats m a 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- What the pipeline is launched with gives the invariant before the first point. -/
theorem phi_in (c : Dev nD) : iprop(Pipeline.ΦA (cfgA a).spec c ∗ Pipeline.ΦT pre0 a.1 c) ⊢ (dats m a 0 c).Φ 0 := by
  rw [dats_Φ]
  unfold Phi Pipeline.ΦA Pipeline.ΦT
  rw [prefHeld_eq, show (cfgA a).spec = spec0 from rfl, scopedRest0_eq]
  iintro ⟨⟨-, Hg⟩, ⟨HT0, HT1⟩⟩
  isplitl [HT0 HT1]
  · isplitl [HT0]; · iexact HT0
    iexact HT1
  iexact Hg

/-- After the last point. -/
theorem phi_out (c : Dev nD) : (dats m a 0 c).Φ (Fin.last (cfgA a).N) ⊢ Pipeline.ΦA (cfgA a).spec c := by
  rw [dats_Φ]
  unfold Phi Pipeline.ΦA
  rw [show (cfgA a).spec = spec0 from rfl, scopedRest0_eq]
  iintro ⟨-, Hg⟩
  isplitr
  · exact .rfl
  iexact Hg

/-- The host's operations do not write the tables. -/
theorem V_pre (ha : ∀ (c : Dev nD) j, a.1 j = m ((c.tc : Thread nD τ).loc (pre0.ref j))) (c : Dev nD) (j : Fin 2) : V m c (pre0.ref j) = a.1 j := by
  rw [ha c j]
  fin_cases j
  · show StableHlo.after hostOps0 _ main_arg1 = _
    unfold hostOps0
    after_results
    rfl
  · show StableHlo.after hostOps0 _ main_arg2 = _
    unfold hostOps0
    after_results
    rfl

set_option backward.isDefEq.respectTransparency.types false in
set_option maxHeartbeats 4000000 in
/-- Every run ends with the arrays at the blocks written back, every other buffer as the pipeline found it, and every
    counter zero. -/
theorem run_main (ha : ∀ (c : Dev nD) j, a.1 j = m ((c.tc : Thread nD τ).loc (pre0.ref j))) :
    θ_run (defs (F := F)) (onTc (τ := τ) (main (F := F))) (s₀ m g)
      (fun r => Pipeline.FramePost (fun _ : Fin 1 => cfgA a) (dats m a) 0 (V m) r ∧ r.2.sem = fun _ => 0) :=
  Pipeline.θ_run_frameP_track pcfgs (fun _ => a) (dats m a) (0 : Fin 1) launch0 defs₀ Variants.none m g main
    (fun c => (body_obligation m a c).loose) (share_eq m a) (fun _ _ => rfl) (V m)
    (Pipeline.hmainP_prefix pcfgs (0 : Fin 1) defs₀ Variants.none m main hostOps0 hostOps0_sub ⟨rfl, rfl, rfl⟩ main_chain)
    (fun _ _ => rfl) (V_pre m a ha) (phi_in m a) (phi_out m a)
    (fun r => Pipeline.FramePost (fun _ : Fin 1 => cfgA a) (dats m a) 0 (V m) r ∧ r.2.sem = fun _ => 0) (fun _ h => h)

end Cert.Kernel2Ideal.Experts
-- ==== Proof.ExpertFrames.lean ====
module

public import proofs.«01_k».proof.Defs
public import proofs.«01_k».proof.Proof.ExpertTwin
public import proofs.«01_k».proof.Proof.ExpertFrame
public import proofs.«01_k».proof.Proof.Gen.Reference2Ideal.Run
public import Idealize.ShloMosaic.Lib.Affine
public import Idealize.ShloMosaic.Lib.Claim
public import Idealize.ShloMosaic.Lib.Quiescent
public import Idealize.ShloMosaic.Lib.ReduceAll
public import Idealize.ShloMosaic.Lib.WordCmp

/-!
  The frame claims of the experts' call: every run ends with the arguments unchanged and every counter zero.
-/

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem

variable {F : FTy → Type} [FloatOps F] (m : (ℓ : Loc nD τ sig) → Buf (Elt F) ℓ) (g : Dev nD → PrngReg)

theorem V_arg0 (c : Dev nD) : V m c main_arg0 = m ((c.tc : Thread nD τ).loc main_arg0) := by
  unfold V hostOps0
  after_results
theorem V_arg3 (c : Dev nD) : V m c main_arg3 = m ((c.tc : Thread nD τ).loc main_arg3) := by
  unfold V hostOps0
  after_results
theorem V_arg4 (c : Dev nD) : V m c main_arg4 = m ((c.tc : Thread nD τ).loc main_arg4) := by
  unfold V hostOps0
  after_results
theorem V_arg5 (c : Dev nD) : V m c main_arg5 = m ((c.tc : Thread nD τ).loc main_arg5) := by
  unfold V hostOps0
  after_results
theorem V_arg1 (c : Dev nD) : V m c main_arg1 = m ((c.tc : Thread nD τ).loc main_arg1) := by
  unfold V hostOps0
  after_results
theorem V_arg2 (c : Dev nD) : V m c main_arg2 = m ((c.tc : Thread nD τ).loc main_arg2) := by
  unfold V hostOps0
  after_results

/-- The buffers of the other arguments are no array of the pipeline. -/
theorem rest_arg1 : main_arg1 ∈ Pipeline.restRefs sig spec0 := by decide
theorem rest_arg2 : main_arg2 ∈ Pipeline.restRefs sig spec0 := by decide
theorem rest_arg3 : main_arg3 ∈ Pipeline.restRefs sig spec0 := by decide
theorem rest_arg4 : main_arg4 ∈ Pipeline.restRefs sig spec0 := by decide
theorem rest_arg5 : main_arg5 ∈ Pipeline.restRefs sig spec0 := by decide

/-- The experts of the blocks all exist. -/
abbrev Exist : Prop := ∀ (c : Dev nD) (x : S136.Idx), ((m ((c.tc : Thread nD τ).loc main_arg1) : IVec S136 32) x).toNat < 8

/-- The tables the run finds. -/
abbrev found : pre0.Contents (Elt F) := fun j => m (((0 : Dev nD).tc : Thread nD τ).loc (pre0.ref j))

/-- A tile of an expert's weights lies in their array. -/
theorem tile_in (v w : ℕ) (hv : v < 8) (hw : w < 7) : ∀ b, ((![v, 0, w] : Fin 3 → ℕ) b + 1) * S1x1024x512.size b ≤ S8x1024x3584.size b := by
  intro b
  fin_cases b
  · show (v + 1) * 1 ≤ 8; omega
  · show (0 + 1) * 1024 ≤ 1024; omega
  · show (w + 1) * 512 ≤ 3584; omega

theorem tile_in_down (v w : ℕ) (hv : v < 8) (hw : w < 7) : ∀ b, ((![v, w, 0] : Fin 3 → ℕ) b + 1) * S1x512x1024.size b ≤ S8x3584x1024.size b := by
  intro b
  fin_cases b
  · show (v + 1) * 1 ≤ 8; omega
  · show (w + 1) * 512 ≤ 3584; omega
  · show (0 + 1) * 1024 ≤ 1024; omega

/-- The second grid coordinate, as the index maps read it. -/
theorem coord_word (i : grid0.Coords) : (BitVec.ofNat 32 (i 1).val).toNat < 7 := by
  have h : (i 1).val < 7 := (i 1).isLt
  rw [BitVec.toNat_ofNat, Nat.mod_eq_of_lt (by omega)]
  exact h

theorem found_ok (h : Exist m) : ok0 (found m) :=
  ⟨fun i => ⟨tile_in _ _ (h 0 _) (coord_word i), .inr (Affine.block_words_dvd (s := S8x1024x3584) (p := EltTy.packing .bf16) (by decide) (by decide))⟩,
   fun i => ⟨tile_in _ _ (h 0 _) (coord_word i), .inr (Affine.block_words_dvd (s := S8x1024x3584) (p := EltTy.packing .bf16) (by decide) (by decide))⟩,
   fun i => ⟨tile_in_down _ _ (h 0 _) (coord_word i), .inr (Affine.block_words_dvd (s := S8x3584x1024) (p := EltTy.packing .bf16) (by decide) (by decide))⟩⟩

/-- The tables the run finds, admissible. -/
abbrev adm (h : Exist m) : (pcfg0 (F := F)).Adm := ⟨found m, found_ok m h⟩

theorem found_pre (h : Exist m) : ∀ (c : Dev nD) j, (adm m h).1 j = m ((c.tc : Thread nD τ).loc (pre0.ref j)) := by
  intro c j
  obtain rfl : c = 0 := Subsingleton.elim _ _
  rfl

/-- Every run ends with the result array at the blocks written back and the arguments unchanged. -/
theorem run_result (h : Exist m) : θ_run (defs (F := F)) (onTc (τ := τ) (main (F := F))) ⟨m, fun _ => 0, g⟩ (fun r => (∀ c : Dev nD,
    r.2.mem ((c.tc : Thread nD τ).loc main_v3) = (dats m (adm m h) 0 c).arrAt (4 : Fin 5) (cfgA (adm m h)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  (θ_run _ _ _).mono (fun r hr => ⟨fun c => ⟨(hr.1 c).1 (4 : Fin 5),
    ((hr.1 c).1 (0 : Fin 5)).trans (((dats m (adm m h) 0 c).arrAt_in (0 : Fin 5) rfl _).trans (V_arg0 m c)),
    ((hr.1 c).2 main_arg1 rest_arg1).trans (V_arg1 m c), ((hr.1 c).2 main_arg2 rest_arg2).trans (V_arg2 m c),
    ((hr.1 c).2 main_arg3 rest_arg3).trans (V_arg3 m c), ((hr.1 c).2 main_arg4 rest_arg4).trans (V_arg4 m c),
    ((hr.1 c).2 main_arg5 rest_arg5).trans (V_arg5 m c)⟩, hr.2⟩) (run_main m g (adm m h) (found_pre m h))

end Cert.Kernel2Ideal.Experts

namespace Cert.Pre_experts_exist

open Idealize.ShloMosaic

/-- The precondition's side conditions. -/
theorem facts : Facts where
  bcast_S_S136 := by decide
  reducesTo_S136_S_d0 := by decide
  h_S_ := by decide

attribute [local instance] facts

instance : Subsingleton S_.Idx := ⟨fun _ _ => funext fun a => a.elim0⟩

/-- A word between 0 and 8, read signed, is one of the eight numbers. -/
theorem word_small (v : BitVec 32) (h1 : IntOp.cmpi .sge v 0#32 = 1#1) (h2 : IntOp.cmpi .slt v 8#32 = 1#1) : v.toNat < 8 := by
  have e1 : (0#32 : BitVec 32).toInt ≤ v.toInt := by
    by_contra hn
    simp [IntOp.cmpi, BitVec.sle] at h1 hn
    rw [decide_eq_false (by omega)] at h1
    exact absurd h1 (by decide)
  have e2 : v.toInt < (8#32 : BitVec 32).toInt := by
    by_contra hn
    simp [IntOp.cmpi, BitVec.slt] at h2 hn
    rw [decide_eq_false (by omega)] at h2
    exact absurd h2 (by decide)
  rw [show (0#32 : BitVec 32).toInt = 0 from rfl] at e1
  rw [show (8#32 : BitVec 32).toInt = 8 from rfl] at e2
  rw [BitVec.toInt_eq_toNat_cond] at e1 e2
  split at e1 <;> omega

/-- The precondition at the experts' table. -/
theorem exist {F : FTy → Type} [FloatOps F] (x : FVec F S69632x1024 .f32) (be : IVec S136 32) (n : IVec S1 32)
    (wg wu : FVec F S8x1024x3584 .f32) (wd : FVec F S8x3584x1024 .f32) (h : fn x be n wg wu wd = fun _ => 1#1) (i : S136.Idx) : (be i).toNat < 8 := by
  have h1 := Host.reduce_andi_all _ _ _ _ _ (congrFun h fun a => a.elim0) i
  obtain ⟨ha, hb⟩ := IntOp.andi_eq_one.mp h1
  exact word_small _ ha hb

end Cert.Pre_experts_exist

namespace Cert.Proof

open Idealize.ShloMosaic Idealize.SL.Sem

theorem frame_Kernel2Ideal : Cert.quiescent_Kernel2Ideal (hPre_experts_exist := Cert.Pre_experts_exist.facts) := fun m g hp =>
  (θ_run _ _ _).mono (fun _ h => ⟨fun c => (h.1 c).2, h.2⟩)
    (Cert.Kernel2Ideal.Experts.run_result m g fun c => Cert.Pre_experts_exist.exist _ _ _ _ _ _ (hp c))

theorem frame_Kernel2 : Cert.quiescent_Kernel2 (hPre_experts_exist := Cert.Pre_experts_exist.facts) := fun m g hp =>
  twin2.mp (fun m g h => (θ_run _ _ _).mono (fun _ h => ⟨fun c => (h.1 c).2, h.2⟩) (Cert.Kernel2Ideal.Experts.run_result m g h)) m g
    fun c => Cert.Pre_experts_exist.exist _ _ _ _ _ _ (hp c)

theorem frame_Reference2Ideal : Cert.quiescent_Reference2Ideal (hPre_experts_exist := Cert.Pre_experts_exist.facts) := fun m g _ =>
  (θ_run _ _ _).mono (fun r h => ⟨fun c => (h c).2, sem_eq_zero_of_no_sems rfl r.2⟩) (Cert.Reference2Ideal.Value.run m g)

end Cert.Proof

end
-- ==== Proof.ExpertMath.lean ====
module

public import Idealize.ShloMosaic.Lib.Pointwise
public import Idealize.ShloMosaic.Lib.IdealHost

/-!
  The experts' layer, entry by entry: a row goes through its block's expert, whose answer is a sum over 3584 hidden features.
-/

@[expose] public section

noncomputable section

namespace Cert.Experts

open Idealize.ShloMosaic Idealize.ShloMosaic.Tactic

/-- The tokens' rows. -/
abbrev Rows := FVec Ideal ⟨2, ![69632, 1024]⟩ .f32
/-- The eight experts' weights into the hidden features. -/
abbrev Wide := FVec Ideal ⟨3, ![8, 1024, 3584]⟩ .f32
/-- The eight experts' weights out of the hidden features. -/
abbrev Narrow := FVec Ideal ⟨3, ![8, 3584, 1024]⟩ .f32

/-- Row `p` against hidden feature `h` of expert `e`. -/
def proj (x : Rows) (w : Wide) (e : Fin 8) (p : Fin 69632) (h : Fin 3584) : EReal := ∑ l : Fin 1024, (show EReal from x (ix2 p l)) * w (ix3 e l h)

/-- A hidden feature: the gate times its logistic, times the other projection. -/
def hidden (g u : EReal) : EReal := g * Ideal.div 1 (1 + Ideal.exp (-g)) * u

/-- What hidden feature `h` adds to entry `d` of row `p`. -/
def term (x : Rows) (wg wu : Wide) (wd : Narrow) (e : Fin 8) (p : Fin 69632) (d : Fin 1024) (h : Fin 3584) : EReal :=
  hidden (proj x wg e p h) (proj x wu e p h) * wd (ix3 e h d)

/-- The expert of a block, when the table names one of the eight. -/
def expert (be : IVec ⟨1, ![136]⟩ 32) (b : Fin 136) : Fin 8 := ⟨(be (ix1 b)).toNat % 8, Nat.mod_lt _ (by decide)⟩

/-- The word's comparison that tells whether block `b` is used. -/
def Used (n : IVec ⟨1, ![1]⟩ 32) (b : ℕ) : Prop := IntOp.cmpi .slt (BitVec.ofNat 32 b) (n (ix1 0)) = 1#1

open Classical in
/-- Entry `d` of row `p`: the answer of the expert of its block, zero where the block is not used. -/
def out (x : Rows) (be : Fin 136 → Fin 8) (n : IVec ⟨1, ![1]⟩ 32) (wg wu : Wide) (wd : Narrow) (p : Fin 69632) (d : Fin 1024) : EReal :=
  if Used n (p.val / 512) then ∑ h : Fin 3584, term x wg wu wd (be ⟨p.val / 512, by omega⟩) p d h else 0

end Cert.Experts

end
-- ==== Proof.ExpertBlocks.lean ====
module

public import proofs.«01_k».proof.Proof.ExpertFrames
public import proofs.«01_k».proof.Proof.ExpertMath
public import Idealize.ShloMosaic.Lib.Pointwise
public import Idealize.ShloMosaic.Lib.WordCmp
public import Idealize.ShloMosaic.Lib.Pipeline.ValueKit.Geometry

/-!
  The blocks of a grid point of the experts' call, as entries of the arguments, and what a tile adds.
-/

@[expose] public section

set_option maxRecDepth 16384

noncomputable section

namespace Cert.Kernel2Ideal.Experts

open Cert.Kernel2Ideal Cert.Kernel2Ideal.Gen
open Idealize.ShloMosaic Idealize.ShloMosaic.Tactic
open Idealize.ShloMosaic.TcCoe
open Idealize.ShloMosaic.Pipeline (Dat Cfg Window)
open Cert.Experts (proj hidden term Used out expert)

variable (m : (ℓ : Loc nD τ sig) → Buf (Elt Ideal) ℓ) (a : (pcfg0 (F := Ideal)).Adm)

/-- The grid's points. -/
abbrev Pt := Fin grid0.N

theorem pt_lt (t : Pt) : t.val / 7 < 136 := by
  have h : t.val < 952 := t.isLt
  omega

/-- The block of a point. -/
abbrev bl (t : Pt) : Fin 136 := ⟨t.val / 7, pt_lt t⟩

/-- The table's word a point's index maps read is its block's. -/
theorem off_eq : ∀ t : Pt, k0_off1 (grid0.coords t) = ![t.val / 7] := by decide +kernel

theorem tile_eq : ∀ t : Pt, (BitVec.ofNat 32 (grid0.coords t 1).val).toNat = t.val % 7 := by decide +kernel

theorem word_at (t : Pt) (inb) : (Rect.unit (s := S136) (k0_off1 (grid0.coords t)) S1.size inb).emb (Shape.Idx.first (numel1_S1.symm ▸ Nat.one_pos)) = (ix1 (bl t) : S136.Idx) := by
  funext q
  match q with
  | ⟨0, _⟩ =>
    refine Fin.ext ?_
    have := congrFun (off_eq t) 0
    exact (Nat.add_zero _).trans this

/-- The word of a block's expert. -/
abbrev word (t : Pt) : BitVec 32 := tabE a (ix1 (bl t))

theorem word_read (t : Pt) : (a.1.at 0 (Rect.unit (s := S136) (k0_off1 (grid0.coords t)) S1.size (k0_off1_inb (grid0.coords t))) numel1_S1 : BitVec 32) = word a t :=
  congrArg (tabE a) (word_at t _)

theorem index_0 (t : Pt) : ((cfgA a).win (0 : Fin 5)).index t = ![t.val / 7, 0] := by
  have h : ∀ t : Pt, cc0_transform_0 (grid0.coords t) = ![t.val / 7, 0] := by decide +kernel
  exact h t

theorem index_4 (t : Pt) : ((cfgA a).win (4 : Fin 5)).index t = ![t.val / 7, 0] := by
  have h : ∀ t : Pt, cc0_transform_4 (grid0.coords t) = ![t.val / 7, 0] := by decide +kernel
  exact h t

theorem index_1 (t : Pt) : ((cfgA a).win (1 : Fin 5)).index t = ![(word a t).toNat, 0, t.val % 7] := by
  rw [← word_read, ← tile_eq]; rfl

theorem index_2 (t : Pt) : ((cfgA a).win (2 : Fin 5)).index t = ![(word a t).toNat, 0, t.val % 7] := by
  rw [← word_read, ← tile_eq]; rfl

theorem index_3 (t : Pt) : ((cfgA a).win (3 : Fin 5)).index t = ![(word a t).toNat, t.val % 7, 0] := by
  rw [← word_read, ← tile_eq]; rfl

/-- The arguments. -/
abbrev ax (c : Dev nD) : FVec Ideal S69632x1024 .f32 := m ((c.tc : Thread nD τ).loc main_arg0)
abbrev ag (c : Dev nD) : FVec Ideal S8x1024x3584 .f32 := m ((c.tc : Thread nD τ).loc main_arg3)
abbrev au (c : Dev nD) : FVec Ideal S8x1024x3584 .f32 := m ((c.tc : Thread nD τ).loc main_arg4)
abbrev ad (c : Dev nD) : FVec Ideal S8x3584x1024 .f32 := m ((c.tc : Thread nD τ).loc main_arg5)

theorem V_main_v0 (c : Dev nD) : V m c main_v0 = ag m c := by rfl
theorem V_main_v1 (c : Dev nD) : V m c main_v1 = au m c := by rfl
theorem V_main_v2 (c : Dev nD) : V m c main_v2 = ad m c := by rfl

variable (hw : ∀ b : Fin 136, (tabE a (ix1 b) : BitVec 32).toNat < 8)
include hw

theorem expert_val (t : Pt) : (expert (tabE a) (bl t)).val = (word a t).toNat := Nat.mod_eq_of_lt (hw (bl t))

omit hw in
theorem xr_at (c : Dev nD) (t : Pt) (r : Fin 512) (l : Fin 1024) :
    xr m a c t (ix2 r l) = ax m c (ix2 ⟨t.val / 7 * 512 + r.val, by have := pt_lt t; omega⟩ l) := by
  have h1 := pt_lt t
  have e : xr m a c t (ix2 r l) = V m c main_arg0 (ix2 ⟨t.val / 7 * 512 + r.val, by omega⟩ l) := by
    blk_ext [iblk, index_0 a t]
  rw [e, V_arg0]

theorem xg_at (c : Dev nD) (t : Pt) (l : Fin 1024) (f : Fin 512) :
    xg m a c t (ix3 0 l f) = ag m c (ix3 (expert (tabE a) (bl t)) l ⟨t.val % 7 * 512 + f.val, by omega⟩) := by
  have h1 := expert_val a hw t
  have e : xg m a c t (ix3 0 l f) = V m c main_v0 (ix3 (expert (tabE a) (bl t)) l ⟨t.val % 7 * 512 + f.val, by omega⟩) := by
    blk_ext [iblk, index_1 a t]
  rw [e, V_main_v0]

theorem xu_at (c : Dev nD) (t : Pt) (l : Fin 1024) (f : Fin 512) :
    xu m a c t (ix3 0 l f) = au m c (ix3 (expert (tabE a) (bl t)) l ⟨t.val % 7 * 512 + f.val, by omega⟩) := by
  have h1 := expert_val a hw t
  have e : xu m a c t (ix3 0 l f) = V m c main_v1 (ix3 (expert (tabE a) (bl t)) l ⟨t.val % 7 * 512 + f.val, by omega⟩) := by
    blk_ext [iblk, index_2 a t]
  rw [e, V_main_v1]

theorem xd_at (c : Dev nD) (t : Pt) (f : Fin 512) (d : Fin 1024) :
    xd m a c t (ix3 0 f d) = ad m c (ix3 (expert (tabE a) (bl t)) ⟨t.val % 7 * 512 + f.val, by omega⟩ d) := by
  have h1 := expert_val a hw t
  have e : xd m a c t (ix3 0 f d) = V m c main_v2 (ix3 (expert (tabE a) (bl t)) ⟨t.val % 7 * 512 + f.val, by omega⟩ d) := by
    blk_ext [iblk, index_3 a t]
  rw [e, V_main_v2]

omit hw

/-- What a tile adds to an entry of the output block. -/
theorem addPart_at (x0 : Vec Ideal S512x1024 .f32) (x1 x2 : Vec Ideal S1x1024x512 .bf16) (x3 : Vec Ideal S1x512x1024 .bf16) (y : Vec Ideal S512x1024 .f32)
    (r : Fin 512) (d : Fin 1024) :
    addPart x0 x1 x2 x3 y (ix2 r d) = (show EReal from y (ix2 r d)) + ∑ f : Fin 512,
      hidden (∑ l : Fin 1024, (show EReal from x0 (ix2 r l)) * x1 (ix3 0 l f)) (∑ l : Fin 1024, (show EReal from x0 (ix2 r l)) * x2 (ix3 0 l f))
        * (show EReal from x3 (ix3 0 f d)) := by
  pointwise [addPart, k0_pay2]
  rfl

theorem zeros_at (i : S512x1024.Idx) : (show EReal from (zeros : Vec Ideal S512x1024 .f32) i) = 0 := Ideal.ofBits_zero_f32

/-- A point adds its part where its block is used. -/
theorem cond2_iff (t : Pt) : k0_cond2 (grid0.coords t) (nUsed a) = 1#1 ↔ Used (tabN a) (t.val / 7) := by
  have hv : ∀ v : BitVec 1, Scalar.cmpi .ne (Scalar.extui v : BitVec 32) 0#32 = 1#1 ↔ v = 1#1 := by decide
  refine (hv _).trans ?_
  have hn : nUsed a = tabN a (ix1 0) := congrArg (tabN a) (funext fun q => by
    match q with
    | ⟨0, _⟩ => rfl)
  rw [hn, (coords_dec t).1]
  rfl

end Cert.Kernel2Ideal.Experts

end
-- ==== Proof.ExpertRef.lean ====
module

public import proofs.«01_k».proof.Proof.Gen.Reference2Ideal.Run
public import proofs.«01_k».proof.Proof.ExpertMath
public import Idealize.ShloMosaic.Lib.Pointwise
public import Idealize.ShloMosaic.Lib.WordCmp
public import Idealize.ShloMosaic.Lib.StableHlo.Predicate

/-!
  The reference of the experts' layer, entry by entry.
-/

@[expose] public section

set_option maxRecDepth 100000

noncomputable section

namespace Cert.Reference2Ideal

open Cert.Reference2Ideal Cert.Reference2Ideal.Gen Cert.Reference2Ideal.Value
open Idealize.ShloMosaic Idealize.ShloMosaic.Tactic Idealize.SL.Sem
open Idealize.ShloMosaic.TcCoe
open Cert.Experts (proj hidden term Used out expert)

/-- The blocks' experts, as a column of start indices. -/
def chosen (be : IVec S136 32) : IVec S136x1 32 := broadcastInDim S136x1 ![0] bcast_S136_S136x1_0 be

/-- Each block's weights in. -/
def wide (w : FVec Ideal S8x1024x3584 .f32) (be : IVec S136 32) : FVec Ideal S136x1024x3584 .f32 :=
  Host.gather gather_S8x1024x3584_S136x1_S136x1024x3584_12_0_n_n_0_1_110243584 w (chosen be)

/-- Each block's weights out. -/
def narrow (w : FVec Ideal S8x3584x1024 .f32) (be : IVec S136 32) : FVec Ideal S136x3584x1024 .f32 :=
  Host.gather gather_S8x3584x1024_S136x1_S136x3584x1024_12_0_n_n_0_1_135841024 w (chosen be)

/-- Each block's rows against its weights in. -/
def into (x : FVec Ideal S69632x1024 .f32) (W : FVec Ideal S136x1024x3584 .f32) : FVec Ideal S136x512x3584 .f32 :=
  Host.dotGeneral dot_S136x512x1024_S136x1024x3584_S136x512x3584_2_1_1_2_0_0 none (shapeCast _ x shapeCasts_S69632x1024_S136x512x1024) W

/-- The hidden features. -/
def act (G U : FVec Ideal S136x512x3584 .f32) : FVec Ideal S136x512x3584 .f32 :=
  mulf (mulf G (Host.divf (broadcastInDim S136x512x3584 ![] bcast_S_S136x512x3584 (constant S_ .f32 0x3F800000#32))
    (addf (broadcastInDim S136x512x3584 ![] bcast_S_S136x512x3584 (constant S_ .f32 0x3F800000#32)) (Host.exp (Host.negf G))))) U

/-- The hidden features against the weights out. -/
def back (A : FVec Ideal S136x512x3584 .f32) (W : FVec Ideal S136x3584x1024 .f32) : FVec Ideal S136x512x1024 .f32 :=
  Host.dotGeneral dot_S136x512x3584_S136x3584x1024_S136x512x1024_2_1_1_2_0_0 none A W

/-- Zeros in the unused blocks, the rows in order. -/
def kept (n : IVec S1 32) (Y : FVec Ideal S136x512x1024 .f32) : FVec Ideal S69632x1024 .f32 :=
  shapeCast _ (select (broadcastInDim S136x512x1024 ![0, 1, 2] bcast_S136x1x1_S136x512x1024_0_1_2 (cmpi .slt (broadcastInDim S136x1x1 ![0] bcast_S136_S136x1x1_0 (iotaInDim S136 32 0)) (broadcastInDim S136x1x1 ![] bcast_S_S136x1x1 (shapeCast _ n shapeCasts_S1_S_))))
    Y (broadcastInDim S136x512x1024 ![] bcast_S_S136x512x1024 (id (constant S_ .f32 0x00000000#32)))) shapeCasts_S136x512x1024_S69632x1024

/-- The reference's result from its six arguments. -/
def experts (x : FVec Ideal S69632x1024 .f32) (be : IVec S136 32) (n : IVec S1 32) (wg wu : FVec Ideal S8x1024x3584 .f32)
    (wd : FVec Ideal S8x3584x1024 .f32) : FVec Ideal S69632x1024 .f32 :=
  kept n (back (act (into x (wide wg be)) (into x (wide wu be))) (narrow wd be))

theorem run_experts (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v15) = experts (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference2Ideal.Value.run m g

theorem chosen_at (be : IVec S136 32) (b : Fin 136) : chosen be (ix2 b (0 : Fin 1)) = be (ix1 b) := by
  pointwise [chosen]

/-- A start index that names one of the eight is not clamped. -/
theorem start_row (be : IVec S136 32) (h : ∀ b : Fin 136, (be (ix1 b)).toNat < 8) (b : Fin 136) :
    min (be (ix1 b)).toInt.toNat 7 = (expert be b).val := by
  have := h b
  rw [BitVec.toInt_eq_toNat_of_lt (by omega)]
  unfold expert
  dsimp only
  omega

theorem wide_at (w : FVec Ideal S8x1024x3584 .f32) (be : IVec S136 32) (h : ∀ b : Fin 136, (be (ix1 b)).toNat < 8) (b : Fin 136) (l : Fin 1024) (f : Fin 3584) :
    wide w be (ix3 b l f) = w (ix3 (expert be b) l f) := by
  unfold wide Host.gather
  refine congrArg w (funext fun a => Fin.ext ?_)
  match a with
  | ⟨0, _⟩ =>
    have hi : (gather_S8x1024x3584_S136x1_S136x1024x3584_12_0_n_n_0_1_110243584).siIdx (ix3 b l f) ⟨0, by decide⟩ = ix2 b (0 : Fin 1) := by
      funext q
      match q with
      | ⟨0, _⟩ => rfl
      | ⟨1, _⟩ => rfl
    have hs : (gather_S8x1024x3584_S136x1_S136x1024x3584_12_0_n_n_0_1_110243584).start (ix3 b l f) (chosen be) 0
        = min (chosen be ((gather_S8x1024x3584_S136x1_S136x1024x3584_12_0_n_n_0_1_110243584).siIdx (ix3 b l f) ⟨0, by decide⟩)).toInt.toNat 7 := dif_pos (by decide)
    refine (Nat.add_zero _).trans ((Nat.add_zero _).trans (hs.trans ?_))
    rw [hi, chosen_at]
    exact start_row be h b
  | ⟨1, _⟩ => exact Nat.zero_add _
  | ⟨2, _⟩ => exact Nat.zero_add _

theorem narrow_at (w : FVec Ideal S8x3584x1024 .f32) (be : IVec S136 32) (h : ∀ b : Fin 136, (be (ix1 b)).toNat < 8) (b : Fin 136) (f : Fin 3584) (d : Fin 1024) :
    narrow w be (ix3 b f d) = w (ix3 (expert be b) f d) := by
  unfold narrow Host.gather
  refine congrArg w (funext fun a => Fin.ext ?_)
  match a with
  | ⟨0, _⟩ =>
    have hi : (gather_S8x3584x1024_S136x1_S136x3584x1024_12_0_n_n_0_1_135841024).siIdx (ix3 b f d) ⟨0, by decide⟩ = ix2 b (0 : Fin 1) := by
      funext q
      match q with
      | ⟨0, _⟩ => rfl
      | ⟨1, _⟩ => rfl
    have hs : (gather_S8x3584x1024_S136x1_S136x3584x1024_12_0_n_n_0_1_135841024).start (ix3 b f d) (chosen be) 0
        = min (chosen be ((gather_S8x3584x1024_S136x1_S136x3584x1024_12_0_n_n_0_1_135841024).siIdx (ix3 b f d) ⟨0, by decide⟩)).toInt.toNat 7 := dif_pos (by decide)
    refine (Nat.add_zero _).trans ((Nat.add_zero _).trans (hs.trans ?_))
    rw [hi, chosen_at]
    exact start_row be h b
  | ⟨1, _⟩ => exact Nat.zero_add _
  | ⟨2, _⟩ => exact Nat.zero_add _

theorem into_at (x : FVec Ideal S69632x1024 .f32) (W : FVec Ideal S136x1024x3584 .f32) (b : Fin 136) (r : Fin 512) (f : Fin 3584) :
    into x W (ix3 b r f) = ∑ l : Fin 1024, (show EReal from x (ix2 ⟨b.val * 512 + r.val, by omega⟩ l)) * W (ix3 b l f) := by
  pointwise [into]

theorem back_at (A : FVec Ideal S136x512x3584 .f32) (W : FVec Ideal S136x3584x1024 .f32) (b : Fin 136) (r : Fin 512) (d : Fin 1024) :
    back A W (ix3 b r d) = ∑ f : Fin 3584, (show EReal from A (ix3 b r f)) * W (ix3 b f d) := by
  pointwise [back]

theorem act_at (G U : FVec Ideal S136x512x3584 .f32) (i : S136x512x3584.Idx) : act G U i = hidden (G i) (U i) := by
  show (show EReal from G i) * Ideal.div (Ideal.ofBits .f32 0x3F800000#32) (Ideal.ofBits .f32 0x3F800000#32 + Ideal.exp (-(show EReal from G i))) * (show EReal from U i) = _
  rw [Ideal.ofBits_one_f32]
  rfl

open Classical in
theorem kept_at (n : IVec S1 32) (Y : FVec Ideal S136x512x1024 .f32) (p : Fin 69632) (d : Fin 1024) :
    kept n Y (ix2 p d) = if Used n (p.val / 512) then (show EReal from Y (ix3 ⟨p.val / 512, by omega⟩ ⟨p.val % 512, by omega⟩ d)) else 0 := by
  pointwise [kept]
  rw [show (id (constant (F := Ideal) S_ .f32 0x00000000#32) ix0 : EReal) = 0 from Ideal.ofBits_zero_f32]
  unfold Used Scalar.select
  split <;> simp_all

/-- The reference, entry by entry. -/
theorem experts_at (x : FVec Ideal S69632x1024 .f32) (be : IVec S136 32) (n : IVec S1 32) (wg wu : FVec Ideal S8x1024x3584 .f32)
    (wd : FVec Ideal S8x3584x1024 .f32) (h : ∀ b : Fin 136, (be (ix1 b)).toNat < 8) (p : Fin 69632) (d : Fin 1024) :
    experts x be n wg wu wd (ix2 p d) = out x (expert be) n wg wu wd p d := by
  classical
  unfold experts out
  rw [kept_at]
  refine if_congr Iff.rfl ?_ rfl
  rw [back_at]
  refine Finset.sum_congr rfl fun f _ => ?_
  have hp : (⟨(⟨p.val / 512, by omega⟩ : Fin 136).val * 512 + (⟨p.val % 512, by omega⟩ : Fin 512).val, by dsimp only; omega⟩ : Fin 69632) = p := Fin.ext (by dsimp only; omega)
  rw [act_at, into_at, into_at, narrow_at wd be h]
  simp only [wide_at _ be h]
  rw [hp]
  rfl

end Cert.Reference2Ideal

end
-- ==== Proof.ExpertValue.lean ====
module

public import proofs.«01_k».proof.Proof.ExpertBlocks
public import proofs.«01_k».proof.Proof.ExpertRef

/-!
  The result of the experts' call: a block's seven points add up the expert's answer tile by tile, which is the reference's sum.
-/

@[expose] public section

set_option maxRecDepth 16384

noncomputable section

namespace Cert.Kernel2Ideal.Experts

open Cert.Kernel2Ideal Cert.Kernel2Ideal.Gen
open Idealize.ShloMosaic Idealize.ShloMosaic.Tactic
open Idealize.ShloMosaic.TcCoe
open Idealize.ShloMosaic.Pipeline (Dat Cfg Window)
open Cert.Experts (proj hidden term Used out expert)

variable (m : (ℓ : Loc nD τ sig) → Buf (Elt Ideal) ℓ) (a : (pcfg0 (F := Ideal)).Adm)
variable (hw : ∀ b : Fin 136, (tabE a (ix1 b) : BitVec 32).toNat < 8)

/-- What tile `j` of the hidden features adds to entry `d` of row `p`. -/
def part (c : Dev nD) (p : Fin 69632) (d : Fin 1024) (j : ℕ) : EReal :=
  if h : j < 7 then ∑ f : Fin 512, term (ax m c) (ag m c) (au m c) (ad m c) (expert (tabE a) ⟨p.val / 512, by omega⟩) p d ⟨j * 512 + f.val, by omega⟩ else 0

/-- The point of a block and a tile. -/
abbrev pt (b : Fin 136) (j : ℕ) (hj : j < 7) : Pt := ⟨b.val * 7 + j, show b.val * 7 + j < 952 by omega⟩

/-- A row of a block. -/
abbrev row (b : Fin 136) (r : Fin 512) : Fin 69632 := ⟨b.val * 512 + r.val, by omega⟩

include hw in
/-- The part a point adds. -/
theorem part_at (c : Dev nD) (b : Fin 136) (j : ℕ) (hj : j < 7) (y : Vec Ideal S512x1024 .f32) (r : Fin 512) (d : Fin 1024) :
    addPart (xr m a c (pt b j hj)) (xg m a c (pt b j hj)) (xu m a c (pt b j hj)) (xd m a c (pt b j hj)) y (ix2 r d)
      = (show EReal from y (ix2 r d)) + part m a c (row b r) d j := by
  have hb : (pt b j hj).val / 7 = b.val := by show (b.val * 7 + j) / 7 = b.val; omega
  have hm : (pt b j hj).val % 7 = j := by show (b.val * 7 + j) % 7 = j; omega
  have hrow : ∀ h, (⟨(pt b j hj).val / 7 * 512 + r.val, h⟩ : Fin 69632) = row b r := fun h => Fin.ext (by show (pt b j hj).val / 7 * 512 + r.val = b.val * 512 + r.val; rw [hb])
  have hbl : bl (pt b j hj) = ⟨(row b r).val / 512, by have := (row b r).isLt; omega⟩ := Fin.ext (by
    show (pt b j hj).val / 7 = (b.val * 512 + r.val) / 512
    omega)
  rw [addPart_at]
  unfold part
  rw [dif_pos hj]
  refine congrArg (_ + ·) (Finset.sum_congr rfl fun f _ => ?_)
  have hf : ∀ h, (⟨(pt b j hj).val % 7 * 512 + f.val, h⟩ : Fin 3584) = ⟨j * 512 + f.val, by omega⟩ := fun h => Fin.ext (by show (pt b j hj).val % 7 * 512 + f.val = j * 512 + f.val; rw [hm])
  simp only [xr_at, xg_at m a hw, xu_at m a hw, xd_at m a hw, hrow, hf, hbl]
  rfl

open Classical in
include hw in
/-- One point's step on an entry. -/
theorem next_at (c : Dev nD) (b : Fin 136) (j : ℕ) (hj : j < 7) (y : Vec Ideal S512x1024 .f32) (r : Fin 512) (d : Fin 1024) :
    (show EReal from next m a c (pt b j hj) y (ix2 r d)) = (if j = 0 then 0 else (show EReal from y (ix2 r d)))
      + (if Used (tabN a) b.val then part m a c (row b r) d j else 0) := by
  have hb : (pt b j hj).val / 7 = b.val := by show (b.val * 7 + j) / 7 = b.val; omega
  have hm : (pt b j hj).val % 7 = j := by show (b.val * 7 + j) % 7 = j; omega
  have h1 : k0_cond1 (crd a (pt b j hj)) = 1#1 ↔ j = 0 := (first_iff (pt b j hj)).trans (by rw [hm])
  have h2 : k0_cond2 (crd a (pt b j hj)) (nUsed a) = 1#1 ↔ Used (tabN a) b.val := (cond2_iff a (pt b j hj)).trans (by rw [hb])
  unfold next step
  dsimp only
  by_cases hu : Used (tabN a) b.val
  · rw [if_pos (h2.mpr hu), if_pos hu]
    refine (part_at m a hw c b j hj _ r d).trans ?_
    by_cases h0 : j = 0
    · rw [if_pos (h1.mpr h0), if_pos h0]
      exact congrArg (· + _) (zeros_at _)
    · rw [if_neg (fun e => h0 (h1.mp e)), if_neg h0]
  · rw [if_neg (fun e => hu (h2.mp e)), if_neg hu, add_zero]
    by_cases h0 : j = 0
    · rw [if_pos (h1.mpr h0), if_pos h0]
      exact zeros_at _
    · rw [if_neg (fun e => h0 (h1.mp e)), if_neg h0]

/-- The output block after a point. -/
theorem acc_next (c : Dev nD) (b : Fin 136) (j : ℕ) (hj : j < 7) :
    accAt m a c (b.val * 7 + j + 1) = next m a c (pt b j hj) (accAt m a c (b.val * 7 + j)) := accAt_succ m a c (pt b j hj)

open Classical in
include hw in
/-- The output block after a block's first tiles. -/
theorem acc_at (c : Dev nD) (b : Fin 136) (r : Fin 512) (d : Fin 1024) : ∀ (j : ℕ), j < 7 →
    (show EReal from accAt m a c (b.val * 7 + j + 1) (ix2 r d))
      = if Used (tabN a) b.val then ∑ i ∈ Finset.range (j + 1), part m a c (row b r) d i else 0
  | 0, hj => by
    refine (congrFun (acc_next m a c b 0 hj) _).trans ((next_at m a hw c b 0 hj _ r d).trans ?_)
    rw [if_pos rfl, zero_add, Finset.sum_range_one]
  | j + 1, hj => by
    refine (congrFun (acc_next m a c b (j + 1) hj) _).trans ((next_at m a hw c b (j + 1) hj _ r d).trans ?_)
    rw [if_neg (Nat.succ_ne_zero j)]
    refine (congrArg (· + _) (acc_at c b r d j (by omega))).trans ?_
    by_cases hu : Used (tabN a) b.val
    · rw [if_pos hu, if_pos hu, if_pos hu, Finset.sum_range_succ _ (j + 1)]
    · rw [if_neg hu, if_neg hu, if_neg hu, add_zero]

/-- The tiles' parts are the sum over the hidden features. -/
theorem parts_sum (c : Dev nD) (p : Fin 69632) (d : Fin 1024) :
    ∑ i ∈ Finset.range 7, part m a c p d i
      = ∑ h : Fin 3584, term (ax m c) (ag m c) (au m c) (ad m c) (expert (tabE a) ⟨p.val / 512, by omega⟩) p d h := by
  rw [Fin.sum_univ_tiles 7 512 rfl, Finset.sum_range]
  refine Finset.sum_congr rfl fun j _ => ?_
  unfold part
  rw [dif_pos j.isLt]

/-- The result's array. -/
def answer (c : Dev nD) : FVec Ideal S69632x1024 .f32 := fun i => out (ax m c) (expert (tabE a)) (tabN a) (ag m c) (au m c) (ad m c) (i 0) (i 1)

include hw in
/-- What a block's last point leaves. -/
theorem last_at (c : Dev nD) (b : Fin 136) (r : Fin 512) (d : Fin 1024) :
    accAt m a c (b.val * 7 + 6 + 1) (ix2 r d) = answer m a c (ix2 (row b r) d) := by
  classical
  refine (acc_at m a hw c b r d 6 (by decide)).trans ?_
  have hb : (row b r).val / 512 = b.val := by show (b.val * 512 + r.val) / 512 = b.val; omega
  rw [parts_sum]
  show _ = out (ax m c) (expert (tabE a)) (tabN a) (ag m c) (au m c) (ad m c) (row b r) d
  unfold out
  exact if_congr (by rw [hb]) rfl rfl

/-- The written-back blocks cover the result. -/
theorem covers : ((cfgA a).win (4 : Fin 5)).Covers := by
  refine ⟨fun q => by
    match q with
    | ⟨0, _⟩ => exact Nat.succ_pos _
    | ⟨1, _⟩ => exact Nat.succ_pos _, fun β => ?_⟩
  have b0 : (β (0 : Fin 2)).val < 136 := lt_of_lt_of_eq (β (0 : Fin 2)).isLt (show (69632 + 512 - 1) / 512 = 136 by decide)
  have b1 : (β (1 : Fin 2)).val < 1 := lt_of_lt_of_eq (β (1 : Fin 2)).isLt (show (1024 + 1024 - 1) / 1024 = 1 by decide)
  refine ⟨pt ⟨(β (0 : Fin 2)).val, b0⟩ 6 (by decide), ?_, fun q => ?_⟩
  · rw [flush_eq]
    exact decide_eq_true (by show ((β (0 : Fin 2)).val * 7 + 6) % 7 = 6; omega)
  · rw [index_4]
    match q with
    | ⟨0, _⟩ => exact ⟨by show ((β (0 : Fin 2)).val * 7 + 6) / 7 = (β (0 : Fin 2)).val; omega, .inl rfl⟩
    | ⟨1, _⟩ => exact ⟨by show 0 = (β (1 : Fin 2)).val; omega, .inl rfl⟩

include hw in
/-- The result array after the run. -/
theorem final (c : Dev nD) : (dats m a 0 c).arrAt (4 : Fin 5) (cfgA a).N = answer m a c := by
  refine (dats m a 0 c).arrAt_eq_of_covers (4 : Fin 5) _ (covers a) fun t hf y => ?_
  rw [flush_eq] at hf
  have hl : t.val % 7 = 6 := of_decide_eq_true hf
  have ht : t.val / 7 < 136 := pt_lt t
  blk_simp
  rw [show (dats m a 0 c).after (4 : Fin 5) t = accAt m a c (t.val + 1) from rfl]
  have e0 : ((((cfgA a).win (4 : Fin 5)).blk t).view.emb y 0).val = t.val / 7 * 512 + (y 0).val := by
    blk_simp [index_4 a t]
    all_goals omega
  have e1 : ((((cfgA a).win (4 : Fin 5)).blk t).view.emb y 1).val = (y 1).val := by
    blk_simp [index_4 a t]
    all_goals omega
  have hy : y = (ix2 (y 0) (y 1) : S512x1024.Idx) := by
    funext q
    match q with
    | ⟨0, _⟩ => rfl
    | ⟨1, _⟩ => rfl
  have h := last_at m a hw c ⟨t.val / 7, ht⟩ (y 0) (y 1)
  have hn : (⟨t.val / 7, ht⟩ : Fin 136).val * 7 + 6 + 1 = t.val + 1 := by dsimp only; omega
  rw [hn, ← hy] at h
  refine h.trans (congrArg (answer m a c) (funext fun q => Fin.ext ?_))
  match q with
  | ⟨0, _⟩ => exact e0.symm
  | ⟨1, _⟩ => exact e1.symm

end Cert.Kernel2Ideal.Experts

namespace Cert.Proof

open Idealize.ShloMosaic Idealize.ShloMosaic.Tactic Idealize.SL.Sem

theorem algebraic2 : Cert.algebraic_Kernel2Ideal_Reference2Ideal (hPre_experts_exist := Cert.Pre_experts_exist.facts) := by
  intro m g m' g' hpre hagree
  have he : Cert.Kernel2Ideal.Experts.Exist m := fun c => Cert.Pre_experts_exist.exist _ _ _ _ _ _ (hpre c)
  have hw : ∀ b : Fin 136, (Cert.Kernel2Ideal.Experts.tabE (Cert.Kernel2Ideal.Experts.adm m he) (ix1 b) : BitVec 32).toNat < 8 := fun b => he 0 (ix1 b)
  refine ⟨fun c => Cert.Kernel2Ideal.Experts.answer m (Cert.Kernel2Ideal.Experts.adm m he) c, ?_, ?_⟩
  · exact (θ_run _ _ _).mono (fun r h c => ⟨(h.1 c).1.trans (Cert.Kernel2Ideal.Experts.final m _ hw c), (h.1 c).2⟩)
      (Cert.Kernel2Ideal.Experts.run_result m g he)
  · refine (θ_run _ _ _).mono (fun r h c => ⟨(h c).1.trans ?_, (h c).2⟩) (Cert.Reference2Ideal.run_experts m' g')
    obtain ⟨e0, e1, e2, e3, e4, e5⟩ := hagree c
    rw [e0, e1, e2, e3, e4, e5]
    obtain rfl : c = 0 := Subsingleton.elim _ _
    funext i
    idx_vars i
    exact Cert.Reference2Ideal.experts_at _ _ _ _ _ _ (fun b => he 0 (ix1 b)) _ _

end Cert.Proof

end
-- ==== Proof.FfnFrames.lean ====
module

public import proofs.«01_k».proof.Defs
public import proofs.«01_k».proof.Proof.Gen.Kernel3
public import proofs.«01_k».proof.Proof.Gen.Kernel3Ideal.Value
public import proofs.«01_k».proof.Proof.Gen.Reference3Ideal
public import proofs.«01_k».proof.Proof.Gen.Reference3Ideal.Run
public import Idealize.ShloMosaic.Lib.Tactic
public import Idealize.ShloMosaic.Lib.Ring

/-!
  The frames of the dense feed-forward call; its two printed programs are one, so a frame of one is a frame of the other.
-/

@[expose] public section

set_option maxRecDepth 16384

noncomputable section

namespace Cert.Proof

open Idealize.ShloMosaic Idealize.SL.Sem

/-- The frame of the one program is the frame of the other. -/
theorem twin3 : (∀ (m : (ℓ : Loc Cert.Kernel3Ideal.nD Cert.Kernel3Ideal.τ Cert.Kernel3Ideal.sig) → Buf (Elt Bits) ℓ) (g : Dev Cert.Kernel3Ideal.nD → PrngReg),
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)) = (∀ (m : (ℓ : Loc Cert.Kernel3.nD Cert.Kernel3.τ Cert.Kernel3.sig) → Buf (Elt Bits) ℓ) (g : Dev Cert.Kernel3.nD → PrngReg),
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)) := by sl_kernel_rfl

theorem frame_Kernel3Ideal : Cert.quiescent_Kernel3Ideal := fun m g _ => Cert.Kernel3Ideal.Gen.frame m g

theorem frame_Kernel3 : Cert.quiescent_Kernel3 := fun m g _ => twin3.mp (fun m g => Cert.Kernel3Ideal.Gen.frame m g) m g

theorem frame_Reference3Ideal : Cert.quiescent_Reference3Ideal := fun m g _ =>
  (θ_run _ _ _).mono (fun r h => ⟨fun c => (h c).2, sem_eq_zero_of_no_sems rfl r.2⟩) (Cert.Reference3Ideal.Value.run m g)

end Cert.Proof

end
-- ==== Proof.FfnMath.lean ====
module

public import proofs.«01_k».proof.Proof.ExpertMath

/-!
  The dense feed-forward layer with its gated residual, entry by entry.
-/

@[expose] public section

noncomputable section

namespace Cert.Ffn

open Idealize.ShloMosaic Idealize.ShloMosaic.Tactic
open Cert.Experts (hidden)

/-- The normalised rows. -/
abbrev Rows := FVec Ideal ⟨2, ![32768, 1024]⟩ .bf16
/-- The residual's rows. -/
abbrev Res := FVec Ideal ⟨2, ![32768, 1024]⟩ .f32
/-- The two sequences' gates. -/
abbrev Gates := FVec Ideal ⟨3, ![2, 1, 1024]⟩ .f32
/-- Weights into the hidden features. -/
abbrev Wide := FVec Ideal ⟨2, ![1024, 2816]⟩ .f32
/-- Weights out of the hidden features. -/
abbrev Narrow := FVec Ideal ⟨2, ![2816, 1024]⟩ .f32

/-- Row `p` against hidden feature `f`. -/
def proj (h : Rows) (w : Wide) (p : Fin 32768) (f : Fin 2816) : EReal := ∑ l : Fin 1024, (show EReal from h (ix2 p l)) * w (ix2 l f)

/-- What hidden feature `f` adds to entry `d` of row `p`, before the gate. -/
def term (h : Rows) (wg wu : Wide) (wd : Narrow) (p : Fin 32768) (d : Fin 1024) (f : Fin 2816) : EReal :=
  hidden (proj h wg p f) (proj h wu p f) * wd (ix2 f d)

/-- Entry `d` of row `p`: the residual plus its sequence's gate times the sum over the hidden features. -/
def out (h : Rows) (x : Res) (g : Gates) (wg wu : Wide) (wd : Narrow) (p : Fin 32768) (d : Fin 1024) : EReal :=
  (show EReal from x (ix2 p d)) + (show EReal from g (ix3 ⟨p.val / 16384, by omega⟩ 0 d)) * ∑ f : Fin 2816, term h wg wu wd p d f

end Cert.Ffn

end
-- ==== Proof.FfnRef.lean ====
module

public import proofs.«01_k».proof.Proof.Gen.Reference3Ideal.Run
public import proofs.«01_k».proof.Proof.FfnMath
public import Idealize.ShloMosaic.Lib.Pointwise

/-!
  The reference of the dense feed-forward layer, entry by entry.
-/

@[expose] public section

set_option maxRecDepth 100000

noncomputable section

namespace Cert.Reference3Ideal

open Cert.Reference3Ideal Cert.Reference3Ideal.Gen Cert.Reference3Ideal.Value
open Idealize.ShloMosaic Idealize.ShloMosaic.Tactic Idealize.SL.Sem
open Idealize.ShloMosaic.TcCoe
open Cert.Experts (hidden)
open Cert.Ffn (proj term out)

/-- The sequences' rows against the weights in. -/
def into (h : FVec Ideal S32768x1024 .bf16) (w : FVec Ideal S1024x2816 .f32) : FVec Ideal S2x16384x2816 .f32 :=
  Host.dotGeneral dot_S2x16384x1024_S1024x2816_S2x16384x2816_2_0_01_1_n_n none (shapeCast _ (extf .f32 h bitsLt_bf16_f32) shapeCasts_S32768x1024_S2x16384x1024) w

/-- The hidden features. -/
def act (G U : FVec Ideal S2x16384x2816 .f32) : FVec Ideal S2x16384x2816 .f32 :=
  mulf (mulf G (Host.divf (broadcastInDim S2x16384x2816 ![] bcast_S_S2x16384x2816 (constant S_ .f32 0x3F800000#32))
    (addf (broadcastInDim S2x16384x2816 ![] bcast_S_S2x16384x2816 (constant S_ .f32 0x3F800000#32)) (Host.exp (Host.negf G))))) U

/-- The hidden features against the weights out. -/
def back (A : FVec Ideal S2x16384x2816 .f32) (w : FVec Ideal S2816x1024 .f32) : FVec Ideal S2x16384x1024 .f32 :=
  Host.dotGeneral dot_S2x16384x2816_S2816x1024_S2x16384x1024_2_0_01_1_n_n none A w

/-- The residual and the gated answer, the rows in order. -/
def joined (x : FVec Ideal S32768x1024 .f32) (g : FVec Ideal S2x1x1024 .f32) (Y : FVec Ideal S2x16384x1024 .f32) : FVec Ideal S32768x1024 .f32 :=
  shapeCast _ (addf (shapeCast _ x shapeCasts_S32768x1024_S2x16384x1024) (mulf (broadcastInDim S2x16384x1024 ![0, 1, 2] bcast_S2x1x1024_S2x16384x1024_0_1_2 g) Y))
    shapeCasts_S2x16384x1024_S32768x1024

/-- The reference's result from its arguments. -/
def ffn (h : FVec Ideal S32768x1024 .bf16) (x : FVec Ideal S32768x1024 .f32) (g : FVec Ideal S2x1x1024 .f32)
    (wg wu : FVec Ideal S1024x2816 .f32) (wd : FVec Ideal S2816x1024 .f32) : FVec Ideal S32768x1024 .f32 :=
  joined x g (back (act (into h wg) (into h wu)) wd)

theorem run_ffn (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v11) = ffn (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference3Ideal.Value.run m g

theorem into_at (h : FVec Ideal S32768x1024 .bf16) (w : FVec Ideal S1024x2816 .f32) (b : Fin 2) (r : Fin 16384) (f : Fin 2816) :
    into h w (ix3 b r f) = proj h w ⟨b.val * 16384 + r.val, by omega⟩ f := by
  unfold proj
  pointwise [into]

theorem back_at (A : FVec Ideal S2x16384x2816 .f32) (w : FVec Ideal S2816x1024 .f32) (b : Fin 2) (r : Fin 16384) (d : Fin 1024) :
    back A w (ix3 b r d) = ∑ f : Fin 2816, (show EReal from A (ix3 b r f)) * w (ix2 f d) := by
  pointwise [back]

theorem act_at (G U : FVec Ideal S2x16384x2816 .f32) (i : S2x16384x2816.Idx) : act G U i = hidden (G i) (U i) := by
  show (show EReal from G i) * Ideal.div (Ideal.ofBits .f32 0x3F800000#32) (Ideal.ofBits .f32 0x3F800000#32 + Ideal.exp (-(show EReal from G i))) * (show EReal from U i) = _
  rw [Ideal.ofBits_one_f32]
  rfl

theorem joined_at (x : FVec Ideal S32768x1024 .f32) (g : FVec Ideal S2x1x1024 .f32) (Y : FVec Ideal S2x16384x1024 .f32) (p : Fin 32768) (d : Fin 1024) :
    joined x g Y (ix2 p d) = (show EReal from x (ix2 p d))
      + (show EReal from g (ix3 ⟨p.val / 16384, by omega⟩ 0 d)) * (show EReal from Y (ix3 ⟨p.val / 16384, by omega⟩ ⟨p.val % 16384, by omega⟩ d)) := by
  have hp : p.val / 16384 * 16384 + p.val % 16384 = p.val := by omega
  pointwise [joined]

/-- The reference, entry by entry. -/
theorem ffn_at (h : FVec Ideal S32768x1024 .bf16) (x : FVec Ideal S32768x1024 .f32) (g : FVec Ideal S2x1x1024 .f32)
    (wg wu : FVec Ideal S1024x2816 .f32) (wd : FVec Ideal S2816x1024 .f32) (p : Fin 32768) (d : Fin 1024) :
    ffn h x g wg wu wd (ix2 p d) = out h x g wg wu wd p d := by
  unfold ffn out
  rw [joined_at, back_at]
  refine congrArg (_ + _ * ·) (Finset.sum_congr rfl fun f _ => ?_)
  have hp : (⟨(⟨p.val / 16384, by omega⟩ : Fin 2).val * 16384 + (⟨p.val % 16384, by omega⟩ : Fin 16384).val, by dsimp only; omega⟩ : Fin 32768) = p := Fin.ext (by dsimp only; omega)
  rw [act_at, into_at, into_at, hp]
  rfl

end Cert.Reference3Ideal

end
-- ==== Proof.FfnValue.lean ====
module

public import proofs.«01_k».proof.Proof.FfnFrames
public import proofs.«01_k».proof.Proof.FfnRef
public import Idealize.ShloMosaic.Lib.Pointwise
public import Idealize.ShloMosaic.Lib.Pipeline.ValueKit

/-!
  The result of the dense feed-forward call: a row block's two points add up the two halves of the hidden features, then the
  gate and the residual are applied.
-/

@[expose] public section

set_option maxRecDepth 16384

noncomputable section

namespace Cert.Kernel3Ideal.Ffn

open Cert.Kernel3Ideal Cert.Kernel3Ideal.Gen
open Idealize.ShloMosaic Idealize.ShloMosaic.Tactic
open Idealize.ShloMosaic.TcCoe
open Idealize.ShloMosaic.Pipeline (Dat Cfg Window)
open Cert.Experts (hidden)
open Cert.Ffn (proj term out)

variable (m : (ℓ : Loc nD τ sig) → Buf (Elt Ideal) ℓ)

/-- The grid's points. -/
abbrev Pt := Fin cfg0.N

theorem pt_lt (t : Pt) : t.val < 128 := lt_of_lt_of_eq t.isLt N_0

/-- Where each window's block lies. -/
theorem idx : ∀ t : Pt, win0_0.index t = ![t.val / 2, 0] ∧ win0_1.index t = ![t.val / 2, 0] ∧ win0_2.index t = ![t.val / 64, 0, 0]
    ∧ win0_4.index t = ![0, t.val % 2] ∧ win0_5.index t = ![0, t.val % 2] ∧ win0_6.index t = ![t.val % 2, 0] ∧ win0_7.index t = ![t.val / 2, 0] :=
  (by decide +kernel : ∀ t : Fin grid0.N, _)

/-- The arguments. -/
abbrev ah (c : Dev nD) : FVec Ideal S32768x1024 .bf16 := m ((c.tc : Thread nD τ).loc main_arg0)
abbrev ax (c : Dev nD) : FVec Ideal S32768x1024 .f32 := m ((c.tc : Thread nD τ).loc main_arg1)
abbrev ae (c : Dev nD) : FVec Ideal S2x1x1024 .f32 := m ((c.tc : Thread nD τ).loc main_arg2)
abbrev ag (c : Dev nD) : FVec Ideal S1024x2816 .f32 := m ((c.tc : Thread nD τ).loc main_arg3)
abbrev au (c : Dev nD) : FVec Ideal S1024x2816 .f32 := m ((c.tc : Thread nD τ).loc main_arg4)
abbrev ad (c : Dev nD) : FVec Ideal S2816x1024 .f32 := m ((c.tc : Thread nD τ).loc main_arg5)

theorem V_main_v1 (c : Dev nD) : V m c main_v1 = ag m c := by rfl
theorem V_main_v2 (c : Dev nD) : V m c main_v2 = au m c := by rfl
theorem V_main_v3 (c : Dev nD) : V m c main_v3 = ad m c := by rfl

/-- The blocks of a point. -/
abbrev bh (c : Dev nD) (t : Pt) : Vec Ideal S512x1024 .bf16 := iblk m c 0 t
abbrev bx (c : Dev nD) (t : Pt) : Vec Ideal S512x1024 .f32 := iblk m c 1 t
abbrev be (c : Dev nD) (t : Pt) : Vec Ideal S1x1x1024 .f32 := iblk m c 2 t
abbrev bg (c : Dev nD) (t : Pt) : Vec Ideal S1024x1408 .bf16 := iblk m c 4 t
abbrev bu (c : Dev nD) (t : Pt) : Vec Ideal S1024x1408 .bf16 := iblk m c 5 t
abbrev bd (c : Dev nD) (t : Pt) : Vec Ideal S1408x1024 .bf16 := iblk m c 6 t

theorem bh_at (c : Dev nD) (t : Pt) (r : Fin 512) (l : Fin 1024) :
    bh m c t (ix2 r l) = ah m c (ix2 ⟨t.val / 2 * 512 + r.val, by have := pt_lt t; omega⟩ l) := by
  have h1 := pt_lt t
  have e : bh m c t (ix2 r l) = V m c main_arg0 (ix2 ⟨t.val / 2 * 512 + r.val, by omega⟩ l) := by
    blk_ext [iblk, idx t]
  rw [e, V_main_arg0]

theorem bx_at (c : Dev nD) (t : Pt) (r : Fin 512) (d : Fin 1024) :
    bx m c t (ix2 r d) = ax m c (ix2 ⟨t.val / 2 * 512 + r.val, by have := pt_lt t; omega⟩ d) := by
  have h1 := pt_lt t
  have e : bx m c t (ix2 r d) = V m c main_arg1 (ix2 ⟨t.val / 2 * 512 + r.val, by omega⟩ d) := by
    blk_ext [iblk, idx t]
  rw [e, V_main_arg1]

theorem be_at (c : Dev nD) (t : Pt) (d : Fin 1024) :
    be m c t (ix3 0 0 d) = ae m c (ix3 ⟨t.val / 64, by have := pt_lt t; omega⟩ 0 d) := by
  have h1 := pt_lt t
  have e : be m c t (ix3 0 0 d) = V m c main_arg2 (ix3 ⟨t.val / 64, by omega⟩ 0 d) := by
    blk_ext [iblk, idx t]
  rw [e, V_main_arg2]

theorem bg_at (c : Dev nD) (t : Pt) (l : Fin 1024) (f : Fin 1408) :
    bg m c t (ix2 l f) = ag m c (ix2 l ⟨t.val % 2 * 1408 + f.val, by omega⟩) := by
  have e : bg m c t (ix2 l f) = V m c main_v1 (ix2 l ⟨t.val % 2 * 1408 + f.val, by omega⟩) := by
    blk_ext [iblk, idx t]
  rw [e, V_main_v1]

theorem bu_at (c : Dev nD) (t : Pt) (l : Fin 1024) (f : Fin 1408) :
    bu m c t (ix2 l f) = au m c (ix2 l ⟨t.val % 2 * 1408 + f.val, by omega⟩) := by
  have e : bu m c t (ix2 l f) = V m c main_v2 (ix2 l ⟨t.val % 2 * 1408 + f.val, by omega⟩) := by
    blk_ext [iblk, idx t]
  rw [e, V_main_v2]

theorem bd_at (c : Dev nD) (t : Pt) (f : Fin 1408) (d : Fin 1024) :
    bd m c t (ix2 f d) = ad m c (ix2 ⟨t.val % 2 * 1408 + f.val, by omega⟩ d) := by
  have e : bd m c t (ix2 f d) = V m c main_v3 (ix2 ⟨t.val % 2 * 1408 + f.val, by omega⟩ d) := by
    blk_ext [iblk, idx t]
  rw [e, V_main_v3]

/-- A tile's answer, from its blocks. -/
theorem tile_at (x0 : Vec Ideal S512x1024 .bf16) (x1 x2 : Vec Ideal S1024x1408 .bf16) (x3 : Vec Ideal S1408x1024 .bf16) (r : Fin 512) (d : Fin 1024) :
    k0_pay1 x0 x1 x2 x3 (ix2 r d) = ∑ f : Fin 1408,
      hidden (∑ l : Fin 1024, (show EReal from x0 (ix2 r l)) * x1 (ix2 l f)) (∑ l : Fin 1024, (show EReal from x0 (ix2 r l)) * x2 (ix2 l f))
        * (show EReal from x3 (ix2 f d)) := by
  pointwise [k0_pay1]
  rfl

/-- What the second point leaves, from what the first left. -/
theorem last_pay (x0 : Vec Ideal S512x1024 .bf16) (x1 x2 : Vec Ideal S1024x1408 .bf16) (x3 : Vec Ideal S1408x1024 .bf16)
    (z : Vec Ideal S512x1024 .f32) (g : Vec Ideal S1x1x1024 .f32) (y : Vec Ideal S512x1024 .f32) (r : Fin 512) (d : Fin 1024) :
    k0_pay3 z g (k0_pay2 x0 x1 x2 x3 y) (ix2 r d) = (show EReal from z (ix2 r d))
      + (show EReal from g (ix3 0 0 d)) * ((show EReal from y (ix2 r d)) + (show EReal from k0_pay1 x0 x1 x2 x3 (ix2 r d))) := by
  pointwise [k0_pay3, k0_pay2]

/-- What half `j` of the hidden features adds to entry `d` of row `p`, before the gate. -/
def half (c : Dev nD) (p : Fin 32768) (d : Fin 1024) (j : Fin 2) : EReal :=
  ∑ f : Fin 1408, term (ah m c) (ag m c) (au m c) (ad m c) p d ⟨j.val * 1408 + f.val, by omega⟩

/-- A point's tile is one half. -/
theorem half_at (c : Dev nD) (t : Pt) (r : Fin 512) (d : Fin 1024) (p : Fin 32768) (j : Fin 2) (hp : p.val = t.val / 2 * 512 + r.val) (hj : j.val = t.val % 2) :
    k0_pay1 (bh m c t) (bg m c t) (bu m c t) (bd m c t) (ix2 r d) = half m c p d j := by
  have ep : ∀ h, (⟨t.val / 2 * 512 + r.val, h⟩ : Fin 32768) = p := fun h => Fin.ext hp.symm
  rw [tile_at]
  unfold half
  refine Finset.sum_congr rfl fun f _ => ?_
  have ef : ∀ h, (⟨t.val % 2 * 1408 + f.val, h⟩ : Fin 2816) = ⟨j.val * 1408 + f.val, by omega⟩ := fun h => Fin.ext (by show t.val % 2 * 1408 + f.val = j.val * 1408 + f.val; rw [hj])
  simp only [bh_at, bg_at, bu_at, bd_at, ep, ef]
  rfl

/-- The two halves are the sum over the hidden features. -/
theorem halves (c : Dev nD) (p : Fin 32768) (d : Fin 1024) :
    half m c p d 0 + half m c p d 1 = ∑ f : Fin 2816, term (ah m c) (ag m c) (au m c) (ad m c) p d f := by
  rw [Fin.sum_univ_tiles 2 1408 rfl, Fin.sum_univ_two]
  rfl

/-- The result's array. -/
def answer (c : Dev nD) : FVec Ideal S32768x1024 .f32 := fun i => out (ah m c) (ax m c) (ae m c) (ag m c) (au m c) (ad m c) (i 0) (i 1)

/-- What a row block's first point leaves. -/
theorem first_left (c : Dev nD) (t : Pt) (h : t.val % 2 = 0) : outsAt0 m c t.val t.isLt = k0_pay1 (bh m c t) (bg m c t) (bu m c t) (bd m c t) := by
  rw [outsAt0_A m c t h (by omega) (by omega)]
  frame_out

/-- What a row block's second point leaves. -/
theorem second_left (c : Dev nD) (t : Pt) (h : t.val % 2 = 1) : outsAt0 m c t.val t.isLt
    = k0_pay3 (bx m c t) (be m c t) (k0_pay2 (bh m c t) (bg m c t) (bu m c t) (bd m c t) (outsAt0 m c (t.val - 1) (Nat.lt_of_le_of_lt (Nat.sub_le _ _) t.isLt))) := by
  rw [outsAt0_B m c t (by omega) h h]
  frame_out

/-- An entry of what a row block's second point leaves. -/
theorem second_at (c : Dev nD) (t : Pt) (h : t.val % 2 = 1) (r : Fin 512) (d : Fin 1024) (p : Fin 32768) (hp : p.val = t.val / 2 * 512 + r.val) :
    outsAt0 m c t.val t.isLt (ix2 r d) = answer m c (ix2 p d) := by
  have ht := pt_lt t
  have ep : ∀ h, (⟨t.val / 2 * 512 + r.val, h⟩ : Fin 32768) = p := fun h => Fin.ext hp.symm
  have eg : ∀ h, (⟨t.val / 64, h⟩ : Fin 2) = ⟨p.val / 16384, by omega⟩ := fun h => Fin.ext (by show t.val / 64 = p.val / 16384; omega)
  have e1 : (⟨t.val - 1, Nat.lt_of_le_of_lt (Nat.sub_le _ _) t.isLt⟩ : Pt).val = t.val - 1 := rfl
  have hf := first_left m c ⟨t.val - 1, Nat.lt_of_le_of_lt (Nat.sub_le _ _) t.isLt⟩ (by dsimp only; omega)
  rw [second_left m c t h, last_pay, half_at m c t r d p 1 hp h.symm, hf,
    half_at m c ⟨t.val - 1, _⟩ r d p 0 (by dsimp only; omega) (by show 0 = (t.val - 1) % 2; omega), bx_at, be_at, ep, eg, halves]
  rfl

/-- The result array after the run. -/
theorem final (c : Dev nD) : (dats m 0 c).arrAt 7 cfg0.N = answer m c := by
  refine (dats m 0 c).arrAt_eq_of_covers 7 _ (by decide +kernel) fun t hf y => ?_
  have hl : t.val % 2 = 1 := (flush0_7 t).mp hf
  have ht := pt_lt t
  blk_simp
  rw [after0_7]
  have e0 : (((cfg0.win 7).blk t).view.emb y 0).val = t.val / 2 * 512 + (y 0).val := by
    blk_simp [idx t]
    all_goals omega
  have e1 : (((cfg0.win 7).blk t).view.emb y 1).val = (y 1).val := by
    blk_simp [idx t]
    all_goals omega
  have hy : y = (ix2 (y 0) (y 1) : S512x1024.Idx) := by
    funext q
    match q with
    | ⟨0, _⟩ => rfl
    | ⟨1, _⟩ => rfl
  have h := second_at m c t hl (y 0) (y 1) ⟨t.val / 2 * 512 + (y 0).val, by have : (y 0).val < 512 := (y 0).isLt; omega⟩ rfl
  rw [← hy] at h
  refine h.trans (congrArg (answer m c) (funext fun q => Fin.ext ?_))
  match q with
  | ⟨0, _⟩ => exact e0.symm
  | ⟨1, _⟩ => exact e1.symm

end Cert.Kernel3Ideal.Ffn

namespace Cert.Proof

open Idealize.ShloMosaic Idealize.ShloMosaic.Tactic Idealize.SL.Sem

theorem algebraic3 : Cert.algebraic_Kernel3Ideal_Reference3Ideal := by
  intro m g m' g' _ hagree
  refine ⟨fun c => Cert.Kernel3Ideal.Ffn.answer m c, ?_, ?_⟩
  · exact (θ_run _ _ _).mono (fun r h c => ⟨(h c).1.trans (Cert.Kernel3Ideal.Ffn.final m c), (h c).2⟩)
      (Cert.Kernel3Ideal.Value.run_blocks m g)
  · refine (θ_run _ _ _).mono (fun r h c => ⟨(h c).1.trans ?_, (h c).2⟩) (Cert.Reference3Ideal.run_ffn m' g')
    obtain ⟨e0, e1, e2, e3, e4, e5, e6⟩ := hagree c
    rw [e0, e1, e2, e3, e4, e5]
    funext i
    idx_vars i
    exact Cert.Reference3Ideal.ffn_at _ _ _ _ _ _ _ _

end Cert.Proof

end
-- ==== Proof.InFrames.lean ====
module

public import proofs.«01_k».proof.Defs
public import proofs.«01_k».proof.Proof.Gen.Kernel4
public import proofs.«01_k».proof.Proof.Gen.Kernel4Ideal.Value
public import proofs.«01_k».proof.Proof.Gen.Reference4Ideal
public import proofs.«01_k».proof.Proof.Gen.Reference4Ideal.Run
public import Idealize.ShloMosaic.Lib.Tactic
public import Idealize.ShloMosaic.Lib.Ring

/-!
  The frames of the input projection's call; its two printed programs are one, so a frame of one is a frame of the other.
-/

@[expose] public section

set_option maxRecDepth 16384

noncomputable section

namespace Cert.Pre_finite_mod

/-- The precondition's side conditions. -/
theorem facts : Facts where
  bcast_S_S2x1x1024 := by decide
  bcast_S_S1024x2736 := by decide
  reducesTo_S2x1x1024_S_d0_1_2 := by decide
  reducesTo_S1024x2736_S_d0_1 := by decide
  h_S_ := by decide

end Cert.Pre_finite_mod

namespace Cert.Proof

open Idealize.ShloMosaic Idealize.SL.Sem

/-- The frame of the one program is the frame of the other. -/
theorem twin4 : (∀ (m : (ℓ : Loc Cert.Kernel4Ideal.nD Cert.Kernel4Ideal.τ Cert.Kernel4Ideal.sig) → Buf (Elt Bits) ℓ) (g : Dev Cert.Kernel4Ideal.nD → PrngReg),
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)) = (∀ (m : (ℓ : Loc Cert.Kernel4.nD Cert.Kernel4.τ Cert.Kernel4.sig) → Buf (Elt Bits) ℓ) (g : Dev Cert.Kernel4.nD → PrngReg),
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)) := by sl_kernel_rfl

theorem frame_Kernel4Ideal : Cert.quiescent_Kernel4Ideal := fun m g _ => Cert.Kernel4Ideal.Gen.frame m g

theorem frame_Kernel4Ideal_pre : Cert.quiescent_Kernel4Ideal_pre_finite_mod (hPre_finite_mod := Cert.Pre_finite_mod.facts) :=
  fun m g _ => frame_Kernel4Ideal m g trivial

theorem frame_Kernel4 : Cert.quiescent_Kernel4 := fun m g _ => twin4.mp (fun m g => Cert.Kernel4Ideal.Gen.frame m g) m g

theorem frame_Reference4Ideal : Cert.quiescent_Reference4Ideal := fun m g _ =>
  (θ_run _ _ _).mono (fun r h => ⟨fun c => (h c).2.2.2.2.2.2, sem_eq_zero_of_no_sems rfl r.2⟩) (Cert.Reference4Ideal.Value.run m g)

theorem frame_Reference4Ideal_pre : Cert.quiescent_Reference4Ideal_pre_finite_mod (hPre_finite_mod := Cert.Pre_finite_mod.facts) :=
  fun m g _ => frame_Reference4Ideal m g trivial

end Cert.Proof

end
-- ==== Proof.InMath.lean ====
module

public import Idealize.ShloMosaic.Lib.Pointwise
public import Idealize.ShloMosaic.Lib.IdealHost

/-!
  The input projection: a row's mean-square normalisation with a scale and a shift, against the weights; and why the
  projection onto negated weights is the negated projection.
-/

@[expose] public section

noncomputable section

namespace Cert.InProj

open Idealize.ShloMosaic Idealize.ShloMosaic.Tactic

/-- The rows. -/
abbrev Rows := FVec Ideal ⟨2, ![32768, 1024]⟩ .f32
/-- The two sequences' shifts or scales. -/
abbrev Mods := FVec Ideal ⟨3, ![2, 1, 1024]⟩ .f32
/-- The weights. -/
abbrev Weights := FVec Ideal ⟨2, ![1024, 2736]⟩ .f32

/-- The inverse root of a row's mean square plus the small constant. -/
def inverse (x : Fin 1024 → EReal) : EReal :=
  Ideal.rsqrt (Ideal.div (∑ k : Fin 1024, x k * x k) (Ideal.ofBits .f32 0x44800000#32) + Ideal.ofBits .f32 0x358637BD#32)

/-- Entry `l` of the normalised row `p`. -/
def hat (x : Rows) (sh sc : Mods) (p : Fin 32768) (l : Fin 1024) : EReal :=
  (show EReal from x (ix2 p l)) * inverse (fun k => x (ix2 p k)) * (Ideal.ofBits .f32 0x3F800000#32 + (show EReal from sc (ix3 ⟨p.val / 16384, by omega⟩ 0 l)))
    + (show EReal from sh (ix3 ⟨p.val / 16384, by omega⟩ 0 l))

/-- The normalised row `p` against column `f` of the weights. -/
def proj (x : Rows) (sh sc : Mods) (w : Weights) (p : Fin 32768) (f : Fin 2736) : EReal := ∑ l : Fin 1024, hat x sh sc p l * (show EReal from w (ix2 l f))

/-- The slab of small pieces out of a row of 2736 lanes: the steps and gates (eight lanes each), a gap of zeros, the position
    key, and the key turned by a quarter; each piece's lanes count from its own start. -/
def pieces (u : Fin 2736 → EReal) (j : Fin 128) : EReal :=
  if h : j.val < 8 then u ⟨1696 + j.val, by omega⟩
  else if h : j.val - 8 < 8 then u ⟨2728 + (j.val - 8), by omega⟩
  else if h : j.val - 8 - 8 < 48 then 0
  else if h : j.val - 8 - 8 - 48 < 32 then u ⟨384 + (j.val - 8 - 8 - 48), by omega⟩
  else if h : j.val - 8 - 8 - 48 - 32 < 16 then -u ⟨384 + (16 + (j.val - 8 - 8 - 48 - 32)), by omega⟩
  else u ⟨384 + (j.val - 8 - 8 - 48 - 32 - 16), by omega⟩

/-! ## Finite modulations and weights -/

/-- A real number among the extended ones. -/
def IsReal (x : EReal) : Prop := ∃ r : ℝ, x = r

theorem IsReal.add {x y : EReal} (hx : IsReal x) (hy : IsReal y) : IsReal (x + y) := by
  obtain ⟨r, rfl⟩ := hx; obtain ⟨t, rfl⟩ := hy; exact ⟨r + t, (EReal.coe_add r t).symm⟩

theorem IsReal.mul {x y : EReal} (hx : IsReal x) (hy : IsReal y) : IsReal (x * y) := by
  obtain ⟨r, rfl⟩ := hx; obtain ⟨t, rfl⟩ := hy; exact ⟨r * t, (EReal.coe_mul r t).symm⟩

theorem IsReal.sum {ι : Type} {A : Finset ι} {f : ι → EReal} (hf : ∀ i, IsReal (f i)) : IsReal (∑ i ∈ A, f i) := by
  classical
  induction A using Finset.induction_on with
  | empty => exact ⟨0, rfl⟩
  | insert a A ha ih => rw [Finset.sum_insert ha]; exact (hf a).add ih

theorem IsReal.of_ne {x : EReal} (h : x ≠ ⊥ ∧ x ≠ ⊤) : IsReal x := ⟨x.toReal, (EReal.coe_toReal h.2 h.1).symm⟩

/-- The row's length. -/
theorem length_eq : Ideal.ofBits .f32 0x44800000#32 = ((1024 : ℝ) : EReal) := by
  simp [Ideal.ofBits, Ideal.ieee, -EReal.coe_mul]; norm_num

/-- The small constant is a positive real. -/
theorem eps_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem square_nonneg (x : EReal) : 0 ≤ x * x := by
  rcases le_total 0 x with h | h
  · exact EReal.mul_nonneg h h
  · have h' : 0 ≤ -x := EReal.neg_nonneg.2 h
    rw [← neg_mul_neg]
    exact EReal.mul_nonneg h' h'

/-- Division by the row's length. -/
theorem div_length (x : EReal) : Ideal.div x (Ideal.ofBits .f32 0x44800000#32) = x * (((1024 : ℝ)⁻¹ : ℝ) : EReal) := by
  rw [length_eq, Ideal.div, if_neg (by norm_num), EReal.coe_inv]

/-- An entry times its row's inverse root is real, whatever the row: with an infinite entry the inverse root is zero. -/
theorem scaled_real (x : Fin 1024 → EReal) (l : Fin 1024) : IsReal (x l * inverse x) := by
  obtain ⟨e, he, hE⟩ := eps_pos
  by_cases hx : ∀ k, x k ≠ ⊥ ∧ x k ≠ ⊤
  · obtain ⟨s, hs⟩ : IsReal (∑ k : Fin 1024, x k * x k) := IsReal.sum fun k => (IsReal.of_ne (hx k)).mul (IsReal.of_ne (hx k))
    have hn : (0 : EReal) ≤ ∑ k : Fin 1024, x k * x k := Finset.sum_nonneg fun k _ => square_nonneg (x k)
    rw [hs] at hn
    have hs0 : 0 ≤ s := EReal.coe_nonneg.1 hn
    refine (IsReal.of_ne (hx l)).mul ?_
    unfold inverse
    rw [hs, div_length, hE, ← EReal.coe_mul, ← EReal.coe_add]
    have hp : 0 < s * (1024 : ℝ)⁻¹ + e := by positivity
    refine ⟨(Real.sqrt (s * (1024 : ℝ)⁻¹ + e))⁻¹, ?_⟩
    show (if s * (1024 : ℝ)⁻¹ + e < 0 then ⊥ else if s * (1024 : ℝ)⁻¹ + e = 0 then ⊤ else (((Real.sqrt (s * (1024 : ℝ)⁻¹ + e))⁻¹ : ℝ) : EReal)) = _
    rw [if_neg (not_lt.2 hp.le), if_neg hp.ne']
  · rw [not_forall] at hx
    obtain ⟨k, hk⟩ := hx
    have hsq : x k * x k = ⊤ := by
      by_cases h : x k = ⊥
      · rw [h]; rfl
      · have : x k = ⊤ := by by_contra h'; exact hk ⟨h, h'⟩
        rw [this]; rfl
    have ht : ∑ k : Fin 1024, x k * x k = ⊤ :=
      top_le_iff.1 (hsq ▸ Finset.single_le_sum (f := fun k => x k * x k) (fun k _ => square_nonneg (x k)) (Finset.mem_univ k))
    refine ⟨0, ?_⟩
    unfold inverse
    rw [ht, div_length, hE, EReal.top_mul_coe_of_pos (by positivity), EReal.top_add_coe]
    exact mul_zero _

/-- Finite scales and shifts: the normalised rows are real. -/
theorem hat_real (x : Rows) (sh sc : Mods) (hsh : ∀ i, IsReal (sh i)) (hsc : ∀ i, IsReal (sc i)) (p : Fin 32768) (l : Fin 1024) :
    IsReal (hat x sh sc p l) := by
  unfold hat
  refine ((scaled_real (fun k => x (ix2 p k)) l).mul (IsReal.add ?_ (hsc _))).add (hsh _)
  rw [Ideal.ofBits_one_f32]
  exact ⟨1, rfl⟩

/-- A sum of negated reals. -/
theorem sum_neg {ι : Type} {A : Finset ι} {f : ι → EReal} (hf : ∀ i, IsReal (f i)) : ∑ i ∈ A, -f i = -∑ i ∈ A, f i := by
  classical
  induction A using Finset.induction_on with
  | empty => simp
  | insert a A ha ih =>
    rw [Finset.sum_insert ha, Finset.sum_insert ha, ih]
    obtain ⟨r, hr⟩ := hf a
    obtain ⟨t, ht⟩ := IsReal.sum (A := A) hf
    rw [hr, ht, ← EReal.coe_neg, ← EReal.coe_neg, ← EReal.coe_add, ← EReal.coe_add, ← EReal.coe_neg, neg_add]

/-- Projecting onto the weights' small pieces is taking the projection's small pieces. -/
theorem pieces_sum (h : Fin 1024 → EReal) (w : Fin 1024 → Fin 2736 → EReal) (hh : ∀ l, IsReal (h l)) (hw : ∀ l f, IsReal (w l f)) (j : Fin 128) :
    ∑ l : Fin 1024, h l * pieces (w l) j = pieces (fun f => ∑ l : Fin 1024, h l * w l f) j := by
  unfold pieces
  split_ifs
  · rfl
  · rfl
  · exact Finset.sum_eq_zero fun l _ => mul_zero _
  · rfl
  · rw [← sum_neg fun l => (hh l).mul (hw l _)]
    exact Finset.sum_congr rfl fun l _ => mul_neg _ _
  · rfl

end Cert.InProj

end
-- ==== Proof.InRef.lean ====
module

public import proofs.«01_k».proof.Proof.Gen.Reference4Ideal.Run
public import proofs.«01_k».proof.Proof.InMath
public import Idealize.ShloMosaic.Lib.Pointwise

/-!
  The reference of the input projection, entry by entry.
-/

@[expose] public section

set_option maxRecDepth 100000

noncomputable section

namespace Cert.Reference4Ideal

open Cert.Reference4Ideal Cert.Reference4Ideal.Gen Cert.Reference4Ideal.Value
open Idealize.ShloMosaic Idealize.ShloMosaic.Tactic Idealize.SL.Sem
open Idealize.ShloMosaic.TcCoe
open Cert.InProj (hat proj)

/-- The mean square of each row, plus the small constant, under the inverse root. -/
def inv (X : FVec Ideal S2x16384x1024 .f32) : FVec Ideal S2x16384x1 .f32 :=
  Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))

/-- The normalised, scaled and shifted rows. -/
def normed (X : FVec Ideal S2x16384x1024 .f32) (R : FVec Ideal S2x16384x1 .f32) (sh sc : FVec Ideal S2x1x1024 .f32) : FVec Ideal S2x16384x1024 .f32 :=
  addf (mulf (mulf X (broadcastInDim S2x16384x1024 ![0, 1, 2] bcast_S2x16384x1_S2x16384x1024_0_1_2 R))
    (broadcastInDim S2x16384x1024 ![0, 1, 2] bcast_S2x1x1024_S2x16384x1024_0_1_2 (addf (broadcastInDim S2x1x1024 ![] bcast_S_S2x1x1024 (constant S_ .f32 0x3F800000#32)) sc)))
    (broadcastInDim S2x16384x1024 ![0, 1, 2] bcast_S2x1x1024_S2x16384x1024_0_1_2 sh)

/-- The rows against all the weights. -/
def all (H : FVec Ideal S2x16384x1024 .f32) (w : FVec Ideal S1024x2736 .f32) : FVec Ideal S2x16384x2736 .f32 :=
  Host.dotGeneral dot_S2x16384x1024_S1024x2736_S2x16384x2736_2_0_01_1_n_n none H w

/-- The projection from the arguments. -/
def u (x : FVec Ideal S32768x1024 .f32) (sh sc : FVec Ideal S2x1x1024 .f32) (w : FVec Ideal S1024x2736 .f32) : FVec Ideal S2x16384x2736 .f32 :=
  all (normed (shapeCast _ x shapeCasts_S32768x1024_S2x16384x1024) (inv (shapeCast _ x shapeCasts_S32768x1024_S2x16384x1024)) sh sc) w

/-- The six results, cut out of the projection. -/
def s0 (U : FVec Ideal S2x16384x2736 .f32) : FVec Ideal S32768x384 .f32 := shapeCast _ (extractStridedSlice S2x16384x384 ![0, 0, 0] U slices_S2x16384x2736_S2x16384x384_0_0_0) shapeCasts_S2x16384x384_S32768x384
def s2 (U : FVec Ideal S2x16384x2736 .f32) : FVec Ideal S32768x512 .f32 := shapeCast _ (extractStridedSlice S2x16384x512 ![0, 0, 416] U slices_S2x16384x2736_S2x16384x512_0_0_416) shapeCasts_S2x16384x512_S32768x512
def s3 (U : FVec Ideal S2x16384x2736 .f32) : FVec Ideal S32768x768 .f32 := shapeCast _ (extractStridedSlice S2x16384x768 ![0, 0, 928] U slices_S2x16384x2736_S2x16384x768_0_0_928) shapeCasts_S2x16384x768_S32768x768
def s4 (U : FVec Ideal S2x16384x2736 .f32) : FVec Ideal S32768x768 .f32 := shapeCast _ (extractStridedSlice S2x16384x768 ![0, 0, 1704] U slices_S2x16384x2736_S2x16384x768_0_0_1704) shapeCasts_S2x16384x768_S32768x768
def s5 (U : FVec Ideal S2x16384x2736 .f32) : FVec Ideal S32768x256 .f32 := shapeCast _ (extractStridedSlice S2x16384x256 ![0, 0, 2472] U slices_S2x16384x2736_S2x16384x256_0_0_2472) shapeCasts_S2x16384x256_S32768x256

/-- The shared position key. -/
def key (U : FVec Ideal S2x16384x2736 .f32) : FVec Ideal S2x16384x32 .f32 := extractStridedSlice S2x16384x32 ![0, 0, 384] U slices_S2x16384x2736_S2x16384x32_0_0_384

/-- The slab of small pieces. -/
def s1 (U : FVec Ideal S2x16384x2736 .f32) : FVec Ideal S32768x128 .f32 :=
  shapeCast _ (concatenate S2x16384x128 2
    [⟨S2x16384x8, extractStridedSlice S2x16384x8 ![0, 0, 1696] U slices_S2x16384x2736_S2x16384x8_0_0_1696⟩,
     ⟨S2x16384x8, extractStridedSlice S2x16384x8 ![0, 0, 2728] U slices_S2x16384x2736_S2x16384x8_0_0_2728⟩,
     ⟨S2x16384x48, broadcastInDim S2x16384x48 ![] bcast_S_S2x16384x48 (constant (F := Ideal) S_ .f32 0x00000000#32)⟩,
     ⟨S2x16384x32, key U⟩,
     ⟨S2x16384x16, Host.negf (extractStridedSlice S2x16384x16 ![0, 0, 16] (key U) slices_S2x16384x32_S2x16384x16_0_0_16)⟩,
     ⟨S2x16384x16, extractStridedSlice S2x16384x16 ![0, 0, 0] (key U) slices_S2x16384x32_S2x16384x16_0_0_0⟩]
    concatenates_S2x16384x8_S2x16384x8_S2x16384x48_S2x16384x32_S2x16384x16_S2x16384x16_S2x16384x128_d2) shapeCasts_S2x16384x128_S32768x128

/-- The projection of a device's arguments. -/
abbrev um (m : (ℓ : Loc nD τ sig) → Buf (Elt Ideal) ℓ) (c : Dev nD) : FVec Ideal S2x16384x2736 .f32 :=
  u (m ((c.tc : Thread nD τ).loc main_arg0)) (m ((c.tc : Thread nD τ).loc main_arg1)) (m ((c.tc : Thread nD τ).loc main_arg2)) (m ((c.tc : Thread nD τ).loc main_arg3))

theorem run_in (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v31) = s0 (um m c)
      ∧ r.2.mem ((c.tc : Thread nD τ).loc main_v32) = s1 (um m c)
      ∧ r.2.mem ((c.tc : Thread nD τ).loc main_v33) = s2 (um m c)
      ∧ r.2.mem ((c.tc : Thread nD τ).loc main_v34) = s3 (um m c)
      ∧ r.2.mem ((c.tc : Thread nD τ).loc main_v35) = s4 (um m c)
      ∧ r.2.mem ((c.tc : Thread nD τ).loc main_v36) = s5 (um m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference4Ideal.Value.run m g

theorem all_at (H : FVec Ideal S2x16384x1024 .f32) (w : FVec Ideal S1024x2736 .f32) (b : Fin 2) (r : Fin 16384) (f : Fin 2736) :
    all H w (ix3 b r f) = ∑ l : Fin 1024, (show EReal from H (ix3 b r l)) * w (ix2 l f) := by
  pointwise [all]

theorem inv_at (X : FVec Ideal S2x16384x1024 .f32) (b : Fin 2) (r : Fin 16384) :
    inv X (ix3 b r 0) = Cert.InProj.inverse (fun k => X (ix3 b r k)) := by
  unfold Cert.InProj.inverse
  pointwise [inv]

theorem normed_at (X : FVec Ideal S2x16384x1024 .f32) (R : FVec Ideal S2x16384x1 .f32) (sh sc : FVec Ideal S2x1x1024 .f32) (b : Fin 2) (r : Fin 16384) (l : Fin 1024) :
    normed X R sh sc (ix3 b r l) = (show EReal from X (ix3 b r l)) * (show EReal from R (ix3 b r 0))
      * (Ideal.ofBits .f32 0x3F800000#32 + (show EReal from sc (ix3 b 0 l))) + (show EReal from sh (ix3 b 0 l)) := by
  pointwise [normed]

theorem rows_at (x : FVec Ideal S32768x1024 .f32) (b : Fin 2) (r : Fin 16384) (l : Fin 1024) :
    (shapeCast S2x16384x1024 x shapeCasts_S32768x1024_S2x16384x1024 : FVec Ideal S2x16384x1024 .f32) (ix3 b r l) = x (ix2 ⟨b.val * 16384 + r.val, by omega⟩ l) := by
  pointwise

/-- An entry of the projection. -/
theorem u_at (x : FVec Ideal S32768x1024 .f32) (sh sc : FVec Ideal S2x1x1024 .f32) (w : FVec Ideal S1024x2736 .f32) (p : Fin 32768) (f : Fin 2736) :
    u x sh sc w (ix3 ⟨p.val / 16384, by omega⟩ ⟨p.val % 16384, by omega⟩ f) = proj x sh sc w p f := by
  have hp : (⟨(⟨p.val / 16384, by omega⟩ : Fin 2).val * 16384 + (⟨p.val % 16384, by omega⟩ : Fin 16384).val, by dsimp only; omega⟩ : Fin 32768) = p := Fin.ext (by dsimp only; omega)
  unfold u proj
  rw [all_at]
  refine Finset.sum_congr rfl fun l _ => congrArg (· * _) ?_
  rw [normed_at, inv_at]
  simp only [rows_at, hp]
  rfl

theorem s0_at (U : FVec Ideal S2x16384x2736 .f32) (p : Fin 32768) (j : Fin 384) :
    s0 U (ix2 p j) = U (ix3 ⟨p.val / 16384, by omega⟩ ⟨p.val % 16384, by omega⟩ ⟨j.val, by omega⟩) := by
  pointwise [s0]

theorem s2_at (U : FVec Ideal S2x16384x2736 .f32) (p : Fin 32768) (j : Fin 512) :
    s2 U (ix2 p j) = U (ix3 ⟨p.val / 16384, by omega⟩ ⟨p.val % 16384, by omega⟩ ⟨416 + j.val, by omega⟩) := by
  pointwise [s2]

theorem s3_at (U : FVec Ideal S2x16384x2736 .f32) (p : Fin 32768) (j : Fin 768) :
    s3 U (ix2 p j) = U (ix3 ⟨p.val / 16384, by omega⟩ ⟨p.val % 16384, by omega⟩ ⟨928 + j.val, by omega⟩) := by
  pointwise [s3]

theorem s4_at (U : FVec Ideal S2x16384x2736 .f32) (p : Fin 32768) (j : Fin 768) :
    s4 U (ix2 p j) = U (ix3 ⟨p.val / 16384, by omega⟩ ⟨p.val % 16384, by omega⟩ ⟨1704 + j.val, by omega⟩) := by
  pointwise [s4]

theorem s5_at (U : FVec Ideal S2x16384x2736 .f32) (p : Fin 32768) (j : Fin 256) :
    s5 U (ix2 p j) = U (ix3 ⟨p.val / 16384, by omega⟩ ⟨p.val % 16384, by omega⟩ ⟨2472 + j.val, by omega⟩) := by
  pointwise [s5]

/-- The small pieces, read off the projection's row. -/
theorem s1_at (U : FVec Ideal S2x16384x2736 .f32) (p : Fin 32768) (j : Fin 128) :
    s1 U (ix2 p j) = Cert.InProj.pieces (fun f => U (ix3 ⟨p.val / 16384, by omega⟩ ⟨p.val % 16384, by omega⟩ f)) j := by
  unfold Cert.InProj.pieces
  pointwise [s1, key]

end Cert.Reference4Ideal

end
-- ==== Proof.InValue.lean ====
module

public import proofs.«01_k».proof.Proof.InFrames
public import proofs.«01_k».proof.Proof.Algebraic
public import proofs.«01_k».proof.Proof.InRef
public import Idealize.ShloMosaic.Lib.Pointwise
public import Idealize.ShloMosaic.Lib.Pipeline.ValueKit

/-!
  The results of the input projection's call: each row block is normalised once and put against six column ranges of the
  rearranged weights.
-/

@[expose] public section

set_option maxRecDepth 16384

noncomputable section

namespace Cert.Kernel4Ideal.In

open Cert.Kernel4Ideal Cert.Kernel4Ideal.Gen
open Idealize.ShloMosaic Idealize.ShloMosaic.Tactic
open Idealize.ShloMosaic.TcCoe
open Idealize.ShloMosaic.Pipeline (Dat Cfg Window)
open Cert.InProj (hat proj pieces inverse)

variable (m : (ℓ : Loc nD τ sig) → Buf (Elt Ideal) ℓ)

/-- The grid's points. -/
abbrev Pt := Fin cfg0.N

theorem pt_lt (t : Pt) : t.val < 64 := lt_of_lt_of_eq t.isLt N_0

/-- Where each window's block lies. -/
theorem idx : ∀ t : Pt, win0_0.index t = ![t.val, 0] ∧ win0_1.index t = ![t.val / 32, 0, 0] ∧ win0_2.index t = ![t.val / 32, 0, 0] ∧ win0_3.index t = ![0, 0]
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The arguments. -/
abbrev ax (c : Dev nD) : FVec Ideal S32768x1024 .f32 := m ((c.tc : Thread nD τ).loc main_arg0)
abbrev ash (c : Dev nD) : FVec Ideal S2x1x1024 .f32 := m ((c.tc : Thread nD τ).loc main_arg1)
abbrev asc (c : Dev nD) : FVec Ideal S2x1x1024 .f32 := m ((c.tc : Thread nD τ).loc main_arg2)
abbrev aw (c : Dev nD) : FVec Ideal S1024x2736 .f32 := m ((c.tc : Thread nD τ).loc main_arg3)

/-! ## The rearranged weights -/

/-- The position key's columns. -/
def keyCols (w : FVec Ideal S1024x2736 .f32) : FVec Ideal S1024x32 .f32 := extractStridedSlice S1024x32 ![0, 384] w slices_S1024x2736_S1024x32_0_384

/-- The key's columns turned by a quarter. -/
def turned (k : FVec Ideal S1024x32 .f32) : FVec Ideal S1024x32 .f32 :=
  concatenate S1024x32 1 [⟨S1024x16, Host.negf (extractStridedSlice S1024x16 ![0, 16] k slices_S1024x32_S1024x16_0_16)⟩,
    ⟨S1024x16, extractStridedSlice S1024x16 ![0, 0] k slices_S1024x32_S1024x16_0_0⟩] concatenates_S1024x16_S1024x16_S1024x32_d1

/-- The columns of small pieces. -/
def small (w : FVec Ideal S1024x2736 .f32) : FVec Ideal S1024x128 .f32 :=
  concatenate S1024x128 1 [⟨S1024x8, extractStridedSlice S1024x8 ![0, 1696] w slices_S1024x2736_S1024x8_0_1696⟩,
    ⟨S1024x8, extractStridedSlice S1024x8 ![0, 2728] w slices_S1024x2736_S1024x8_0_2728⟩,
    ⟨S1024x48, broadcastInDim S1024x48 ![] bcast_S_S1024x48 (constant (F := Ideal) S_ .f32 0x00000000#32)⟩,
    ⟨S1024x32, keyCols w⟩, ⟨S1024x32, turned (keyCols w)⟩] concatenates_S1024x8_S1024x8_S1024x48_S1024x32_S1024x32_S1024x128_d1

/-- All columns, rearranged. -/
def arranged (w : FVec Ideal S1024x2736 .f32) : FVec Ideal S1024x2816 .f32 :=
  concatenate S1024x2816 1 [⟨S1024x384, extractStridedSlice S1024x384 ![0, 0] w slices_S1024x2736_S1024x384_0_0⟩,
    ⟨S1024x128, small w⟩,
    ⟨S1024x512, extractStridedSlice S1024x512 ![0, 416] w slices_S1024x2736_S1024x512_0_416⟩,
    ⟨S1024x768, extractStridedSlice S1024x768 ![0, 928] w slices_S1024x2736_S1024x768_0_928⟩,
    ⟨S1024x768, extractStridedSlice S1024x768 ![0, 1704] w slices_S1024x2736_S1024x768_0_1704⟩,
    ⟨S1024x256, extractStridedSlice S1024x256 ![0, 2472] w slices_S1024x2736_S1024x256_0_2472⟩]
    concatenates_S1024x384_S1024x128_S1024x512_S1024x768_S1024x768_S1024x256_S1024x2816_d1

set_option maxHeartbeats 4000000 in
theorem V_main_v15 (c : Dev nD) : V m c main_v15 = arranged (aw m c) := by rfl

theorem small_at (w : FVec Ideal S1024x2736 .f32) (l : Fin 1024) (j : Fin 128) : small w (ix2 l j) = pieces (fun f => w (ix2 l f)) j := by
  unfold pieces
  pointwise [small, turned, keyCols]

theorem arranged0 (w : FVec Ideal S1024x2736 .f32) (l : Fin 1024) (j : Fin 384) : arranged w (ix2 l ⟨0 + j.val, by omega⟩) = w (ix2 l ⟨j.val, by omega⟩) := by
  have h : 0 + j.val < 384 := by omega
  pointwise [arranged]

theorem arranged1 (w : FVec Ideal S1024x2736 .f32) (l : Fin 1024) (j : Fin 128) : arranged w (ix2 l ⟨384 + j.val, by omega⟩) = pieces (fun f => w (ix2 l f)) j := by
  rw [← small_at]
  pointwise [arranged]

theorem arranged2 (w : FVec Ideal S1024x2736 .f32) (l : Fin 1024) (j : Fin 512) : arranged w (ix2 l ⟨512 + j.val, by omega⟩) = w (ix2 l ⟨416 + j.val, by omega⟩) := by
  pointwise [arranged]
  rw [dif_neg (by omega), dif_neg (by omega), dif_pos (by omega)]
  exact congrArg (fun q => w (ix2 l q)) (Fin.ext (by dsimp only; omega))

theorem arranged3 (w : FVec Ideal S1024x2736 .f32) (l : Fin 1024) (j : Fin 768) : arranged w (ix2 l ⟨1024 + j.val, by omega⟩) = w (ix2 l ⟨928 + j.val, by omega⟩) := by
  pointwise [arranged]
  rw [dif_neg (by omega), dif_neg (by omega), dif_neg (by omega), dif_pos (by omega)]
  exact congrArg (fun q => w (ix2 l q)) (Fin.ext (by dsimp only; omega))

theorem arranged4 (w : FVec Ideal S1024x2736 .f32) (l : Fin 1024) (j : Fin 768) : arranged w (ix2 l ⟨1792 + j.val, by omega⟩) = w (ix2 l ⟨1704 + j.val, by omega⟩) := by
  pointwise [arranged]
  rw [dif_neg (by omega), dif_neg (by omega), dif_neg (by omega), dif_neg (by omega), dif_pos (by omega)]
  exact congrArg (fun q => w (ix2 l q)) (Fin.ext (by dsimp only; omega))

theorem arranged5 (w : FVec Ideal S1024x2736 .f32) (l : Fin 1024) (j : Fin 256) : arranged w (ix2 l ⟨2560 + j.val, by omega⟩) = w (ix2 l ⟨2472 + j.val, by omega⟩) := by
  pointwise [arranged]
  rw [dif_neg (by omega), dif_neg (by omega), dif_neg (by omega), dif_neg (by omega), dif_neg (by omega)]
  exact congrArg (fun q => w (ix2 l q)) (Fin.ext (by dsimp only; omega))

/-! ## The blocks of a point -/

abbrev bx (c : Dev nD) (t : Pt) : Vec Ideal S512x1024 .f32 := iblk m c 0 t
abbrev bsh (c : Dev nD) (t : Pt) : Vec Ideal S1x1x1024 .f32 := iblk m c 1 t
abbrev bsc (c : Dev nD) (t : Pt) : Vec Ideal S1x1x1024 .f32 := iblk m c 2 t
abbrev bw (c : Dev nD) (t : Pt) : Vec Ideal S1024x2816 .bf16 := iblk m c 3 t

theorem bx_at (c : Dev nD) (t : Pt) (r : Fin 512) (l : Fin 1024) :
    bx m c t (ix2 r l) = ax m c (ix2 ⟨t.val * 512 + r.val, by have := pt_lt t; omega⟩ l) := by
  have h1 := pt_lt t
  have e : bx m c t (ix2 r l) = V m c main_arg0 (ix2 ⟨t.val * 512 + r.val, by omega⟩ l) := by
    blk_ext [iblk, idx t]
  rw [e, V_main_arg0]

theorem bsh_at (c : Dev nD) (t : Pt) (d : Fin 1024) :
    bsh m c t (ix3 0 0 d) = ash m c (ix3 ⟨t.val / 32, by have := pt_lt t; omega⟩ 0 d) := by
  have h1 := pt_lt t
  have e : bsh m c t (ix3 0 0 d) = V m c main_arg1 (ix3 ⟨t.val / 32, by omega⟩ 0 d) := by
    blk_ext [iblk, idx t]
  rw [e, V_main_arg1]

theorem bsc_at (c : Dev nD) (t : Pt) (d : Fin 1024) :
    bsc m c t (ix3 0 0 d) = asc m c (ix3 ⟨t.val / 32, by have := pt_lt t; omega⟩ 0 d) := by
  have h1 := pt_lt t
  have e : bsc m c t (ix3 0 0 d) = V m c main_arg2 (ix3 ⟨t.val / 32, by omega⟩ 0 d) := by
    blk_ext [iblk, idx t]
  rw [e, V_main_arg2]

theorem bw_at (c : Dev nD) (t : Pt) (l : Fin 1024) (f : Fin 2816) : bw m c t (ix2 l f) = arranged (aw m c) (ix2 l f) := by
  have e : bw m c t (ix2 l f) = V m c main_v15 (ix2 l f) := by
    blk_ext [iblk, idx t]
  rw [e, V_main_v15]

/-! ## The block's answers -/

/-- The normalised block, entry by entry. -/
theorem norm_at (x : Vec Ideal S512x1024 .f32) (sc sh : Vec Ideal S1x1x1024 .f32) (r : Fin 512) (l : Fin 1024) :
    k0_pay5 x sc sh (ix2 r l) = (show EReal from x (ix2 r l)) * inverse (fun k => x (ix2 r k))
      * (Ideal.ofBits .f32 0x3F800000#32 + (show EReal from sc (ix3 0 0 l))) + (show EReal from sh (ix3 0 0 l)) := by
  unfold inverse
  pointwise [k0_pay5]

/-- The block's rows are the argument's normalised rows. -/
theorem norm_hat (c : Dev nD) (t : Pt) (r : Fin 512) (l : Fin 1024) (p : Fin 32768) (hp : p.val = t.val * 512 + r.val) :
    k0_pay5 (bx m c t) (bsc m c t) (bsh m c t) (ix2 r l) = hat (ax m c) (ash m c) (asc m c) p l := by
  have ht := pt_lt t
  have ep : ∀ h, (⟨t.val * 512 + r.val, h⟩ : Fin 32768) = p := fun h => Fin.ext hp.symm
  have eg : ∀ h, (⟨t.val / 32, h⟩ : Fin 2) = ⟨p.val / 16384, by omega⟩ := fun h => Fin.ext (by show t.val / 32 = p.val / 16384; omega)
  rw [norm_at]
  simp only [bx_at, bsc_at, bsh_at, ep, eg]
  rfl

/-- Row `p` against column `f` of the rearranged weights. -/
def entry (c : Dev nD) (p : Fin 32768) (f : Fin 2816) : EReal :=
  ∑ l : Fin 1024, hat (ax m c) (ash m c) (asc m c) p l * (show EReal from arranged (aw m c) (ix2 l f))

/-- A slab: `n` columns from column `off` on. -/
def slab (c : Dev nD) (off n : ℕ) (h : off + n ≤ 2816) : FVec Ideal ⟨2, ![32768, n]⟩ .f32 :=
  fun i => entry m c (i 0) ⟨off + (i 1).val, by have : (i 1).val < n := (i 1).isLt; omega⟩

/-- A block's answer against a column range of the weights, put where its rows lie. -/
theorem put (c : Dev nD) (t : Pt) (off n : ℕ) (h : off + n ≤ 2816) (z : FVec Ideal ⟨2, ![512, n]⟩ .f32) (W : Fin 1024 → Fin n → EReal)
    (hz : ∀ r j, z (ix2 r j) = ∑ l : Fin 1024, (show EReal from k0_pay5 (bx m c t) (bsc m c t) (bsh m c t) (ix2 r l)) * W l j)
    (hW : ∀ l j, W l j = bw m c t (ix2 l ⟨off + j.val, by omega⟩))
    (y : Shape.Idx ⟨2, ![512, n]⟩) (i : Shape.Idx ⟨2, ![32768, n]⟩) (e0 : (i 0).val = t.val * 512 + (y 0).val) (e1 : (i 1).val = (y 1).val) :
    z y = slab m c off n h i := by
  let r : Fin 512 := y 0
  let j : Fin n := y 1
  let p : Fin 32768 := i 0
  have hy : y = ix2 r j := by
    funext q
    match q with
    | ⟨0, _⟩ => rfl
    | ⟨1, _⟩ => rfl
  have hi : i = ix2 p j := by
    funext q
    match q with
    | ⟨0, _⟩ => rfl
    | ⟨1, _⟩ => exact Fin.ext e1
  rw [hy, hi, hz]
  have hj : j.val < n := j.isLt
  show _ = entry m c p ⟨off + j.val, by omega⟩
  unfold entry
  refine Finset.sum_congr rfl fun l _ => ?_
  rw [hW, bw_at, norm_hat m c t r l p e0]

/-! ## The products of a normalised block -/

theorem norm9 (x : Vec Ideal S512x1024 .f32) (sh sc : Vec Ideal S1x1x1024 .f32) (W : Vec Ideal S1024x2816 .bf16) : k0_pay9 x sh sc W = k0_pay5 x sc sh := by
  unfold k0_pay9
  frame_out

theorem prod0 (x : Vec Ideal S512x1024 .f32) (sc sh : Vec Ideal S1x1x1024 .f32) (W : Vec Ideal S1024x384 .bf16) (r : Fin 512) (j : Fin 384) :
    k0_pay6 x sc sh W (ix2 r j) = ∑ l : Fin 1024, (show EReal from k0_pay5 x sc sh (ix2 r l)) * W (ix2 l j) := by
  pointwise [k0_pay6]

theorem prod1 (x : Vec Ideal S512x1024 .f32) (sc sh : Vec Ideal S1x1x1024 .f32) (W : Vec Ideal S1024x128 .bf16) (r : Fin 512) (j : Fin 128) :
    k0_pay7 x sc sh W (ix2 r j) = ∑ l : Fin 1024, (show EReal from k0_pay5 x sc sh (ix2 r l)) * W (ix2 l j) := by
  pointwise [k0_pay7]

theorem prod2 (x : Vec Ideal S512x1024 .f32) (sc sh : Vec Ideal S1x1x1024 .f32) (W : Vec Ideal S1024x512 .bf16) (r : Fin 512) (j : Fin 512) :
    k0_pay1 (k0_pay5 x sc sh) (k0_pay8 W) (constant S512x512 .f32 0x00000000#32) (ix2 r j) = ∑ l : Fin 1024, (show EReal from k0_pay5 x sc sh (ix2 r l)) * W (ix2 l j) := by
  pointwise [k0_pay1, k0_pay8]

theorem prod3 (x : Vec Ideal S512x1024 .f32) (sc sh : Vec Ideal S1x1x1024 .f32) (W : Vec Ideal S1024x768 .bf16) (r : Fin 512) (j : Fin 768) :
    k0_pay2 (k0_pay5 x sc sh) W (ix2 r j) = ∑ l : Fin 1024, (show EReal from k0_pay5 x sc sh (ix2 r l)) * W (ix2 l j) := by
  pointwise [k0_pay2]

theorem prod4 (x : Vec Ideal S512x1024 .f32) (sc sh : Vec Ideal S1x1x1024 .f32) (W : Vec Ideal S1024x768 .bf16) (r : Fin 512) (j : Fin 768) :
    k0_pay3 (k0_pay5 x sc sh) W (ix2 r j) = ∑ l : Fin 1024, (show EReal from k0_pay5 x sc sh (ix2 r l)) * W (ix2 l j) := by
  pointwise [k0_pay3]

theorem prod5 (x : Vec Ideal S512x1024 .f32) (sc sh : Vec Ideal S1x1x1024 .f32) (W : Vec Ideal S1024x256 .bf16) (r : Fin 512) (j : Fin 256) :
    k0_pay4 (k0_pay5 x sc sh) W (ix2 r j) = ∑ l : Fin 1024, (show EReal from k0_pay5 x sc sh (ix2 r l)) * W (ix2 l j) := by
  pointwise [k0_pay4]

/-! ## The column ranges, read out of the weights -/

theorem cut0 (W : Vec Ideal S1024x2816 .bf16) (l : Fin 1024) (j : Fin 384) : View.ld W r0_2 (ix2 l j) = W (ix2 l ⟨0 + j.val, by omega⟩) :=
  View.ld_unit_apply_of W ![0, 0] _ _ _ _ fun a => match a with
    | ⟨0, _⟩ => (Nat.zero_add _).symm
    | ⟨1, _⟩ => rfl

theorem cut1 (W : Vec Ideal S1024x2816 .bf16) (l : Fin 1024) (j : Fin 128) : View.ld W r0_4 (ix2 l j) = W (ix2 l ⟨384 + j.val, by omega⟩) :=
  View.ld_unit_apply_of W ![0, 384] _ _ _ _ fun a => match a with
    | ⟨0, _⟩ => (Nat.zero_add _).symm
    | ⟨1, _⟩ => rfl

theorem cut2 (W : Vec Ideal S1024x2816 .bf16) (l : Fin 1024) (j : Fin 512) : View.ld W r0_6 (ix2 l j) = W (ix2 l ⟨512 + j.val, by omega⟩) :=
  View.ld_unit_apply_of W ![0, 512] _ _ _ _ fun a => match a with
    | ⟨0, _⟩ => (Nat.zero_add _).symm
    | ⟨1, _⟩ => rfl

theorem cut3 (W : Vec Ideal S1024x2816 .bf16) (l : Fin 1024) (j : Fin 768) : View.ld W r0_8 (ix2 l j) = W (ix2 l ⟨1024 + j.val, by omega⟩) :=
  View.ld_unit_apply_of W ![0, 1024] _ _ _ _ fun a => match a with
    | ⟨0, _⟩ => (Nat.zero_add _).symm
    | ⟨1, _⟩ => rfl

theorem cut4 (W : Vec Ideal S1024x2816 .bf16) (l : Fin 1024) (j : Fin 768) : View.ld W r0_10 (ix2 l j) = W (ix2 l ⟨1792 + j.val, by omega⟩) :=
  View.ld_unit_apply_of W ![0, 1792] _ _ _ _ fun a => match a with
    | ⟨0, _⟩ => (Nat.zero_add _).symm
    | ⟨1, _⟩ => rfl

theorem cut5 (W : Vec Ideal S1024x2816 .bf16) (l : Fin 1024) (j : Fin 256) : View.ld W r0_11 (ix2 l j) = W (ix2 l ⟨2560 + j.val, by omega⟩) :=
  View.ld_unit_apply_of W ![0, 2560] _ _ _ _ fun a => match a with
    | ⟨0, _⟩ => (Nat.zero_add _).symm
    | ⟨1, _⟩ => rfl

/-! ## The result arrays after the run -/

theorem final0 (c : Dev nD) : (dats m 0 c).arrAt 4 cfg0.N = slab m c 0 384 (by omega) := by
  refine (dats m 0 c).arrAt_eq_of_covers 4 _ (by decide +kernel) fun t _ y => ?_
  have ht := pt_lt t
  blk_simp
  rw [after0_4]
  have hl : out0_4 (bx m c t) (bsh m c t) (bsc m c t) (bw m c t) = k0_pay6 (bx m c t) (bsc m c t) (bsh m c t) (View.ld (bw m c t) r0_2) := by frame_out
  exact (congrFun hl y).trans (put m c t 0 384 (by omega) _ _ (prod0 _ _ _ _) (fun l j => cut0 _ l j) y _
    (by blk_simp [idx t]; all_goals omega) (by blk_simp [idx t]; all_goals omega))

theorem final1 (c : Dev nD) : (dats m 0 c).arrAt 5 cfg0.N = slab m c 384 128 (by omega) := by
  refine (dats m 0 c).arrAt_eq_of_covers 5 _ (by decide +kernel) fun t _ y => ?_
  have ht := pt_lt t
  blk_simp
  rw [after0_5]
  have hl : out0_5 (bx m c t) (bsh m c t) (bsc m c t) (bw m c t) = k0_pay7 (bx m c t) (bsc m c t) (bsh m c t) (View.ld (bw m c t) r0_4) := by frame_out
  exact (congrFun hl y).trans (put m c t 384 128 (by omega) _ _ (prod1 _ _ _ _) (fun l j => cut1 _ l j) y _
    (by blk_simp [idx t]; all_goals omega) (by blk_simp [idx t]; all_goals omega))

theorem final2 (c : Dev nD) : (dats m 0 c).arrAt 6 cfg0.N = slab m c 512 512 (by omega) := by
  refine (dats m 0 c).arrAt_eq_of_covers 6 _ (by decide +kernel) fun t _ y => ?_
  have ht := pt_lt t
  blk_simp
  rw [after0_6]
  have hl : out0_6 (bx m c t) (bsh m c t) (bsc m c t) (bw m c t) = k0_pay1 (k0_pay5 (bx m c t) (bsc m c t) (bsh m c t)) (k0_pay8 (View.ld (bw m c t) r0_6)) (constant S512x512 .f32 0x00000000#32) := by
    frame_out
    rw [norm9]
  exact (congrFun hl y).trans (put m c t 512 512 (by omega) _ _ (prod2 _ _ _ _) (fun l j => cut2 _ l j) y _
    (by blk_simp [idx t]; all_goals omega) (by blk_simp [idx t]; all_goals omega))

theorem final3 (c : Dev nD) : (dats m 0 c).arrAt 7 cfg0.N = slab m c 1024 768 (by omega) := by
  refine (dats m 0 c).arrAt_eq_of_covers 7 _ (by decide +kernel) fun t _ y => ?_
  have ht := pt_lt t
  blk_simp
  rw [after0_7]
  have hl : out0_7 (bx m c t) (bsh m c t) (bsc m c t) (bw m c t) = k0_pay2 (k0_pay5 (bx m c t) (bsc m c t) (bsh m c t)) (View.ld (bw m c t) r0_8) := by
    frame_out
    rw [norm9]
  exact (congrFun hl y).trans (put m c t 1024 768 (by omega) _ _ (prod3 _ _ _ _) (fun l j => cut3 _ l j) y _
    (by blk_simp [idx t]; all_goals omega) (by blk_simp [idx t]; all_goals omega))

theorem final4 (c : Dev nD) : (dats m 0 c).arrAt 8 cfg0.N = slab m c 1792 768 (by omega) := by
  refine (dats m 0 c).arrAt_eq_of_covers 8 _ (by decide +kernel) fun t _ y => ?_
  have ht := pt_lt t
  blk_simp
  rw [after0_8]
  have hl : out0_8 (bx m c t) (bsh m c t) (bsc m c t) (bw m c t) = k0_pay3 (k0_pay5 (bx m c t) (bsc m c t) (bsh m c t)) (View.ld (bw m c t) r0_10) := by
    frame_out
    rw [norm9]
  exact (congrFun hl y).trans (put m c t 1792 768 (by omega) _ _ (prod4 _ _ _ _) (fun l j => cut4 _ l j) y _
    (by blk_simp [idx t]; all_goals omega) (by blk_simp [idx t]; all_goals omega))

theorem final5 (c : Dev nD) : (dats m 0 c).arrAt 9 cfg0.N = slab m c 2560 256 (by omega) := by
  refine (dats m 0 c).arrAt_eq_of_covers 9 _ (by decide +kernel) fun t _ y => ?_
  have ht := pt_lt t
  blk_simp
  rw [after0_9]
  have hl : out0_9 (bx m c t) (bsh m c t) (bsc m c t) (bw m c t) = k0_pay4 (k0_pay5 (bx m c t) (bsc m c t) (bsh m c t)) (View.ld (bw m c t) r0_11) := by
    frame_out
    rw [norm9]
  exact (congrFun hl y).trans (put m c t 2560 256 (by omega) _ _ (prod5 _ _ _ _) (fun l j => cut5 _ l j) y _
    (by blk_simp [idx t]; all_goals omega) (by blk_simp [idx t]; all_goals omega))

/-! ## The slabs, from the weights as they were given -/

/-- A slab whose columns are the weights' own from `src` on. -/
theorem slab_proj (c : Dev nD) (off src n : ℕ) (h : off + n ≤ 2816) (hs : src + n ≤ 2736)
    (hc : ∀ (l : Fin 1024) (j : Fin n), arranged (aw m c) (ix2 l ⟨off + j.val, by omega⟩) = aw m c (ix2 l ⟨src + j.val, by omega⟩)) (p : Fin 32768) (j : Fin n) :
    slab m c off n h (ix2 p j) = proj (ax m c) (ash m c) (asc m c) (aw m c) p ⟨src + j.val, by omega⟩ := by
  show ∑ l : Fin 1024, hat (ax m c) (ash m c) (asc m c) p l * (show EReal from arranged (aw m c) (ix2 l ⟨off + j.val, by omega⟩))
    = ∑ l : Fin 1024, hat (ax m c) (ash m c) (asc m c) p l * (show EReal from aw m c (ix2 l ⟨src + j.val, by omega⟩))
  exact Finset.sum_congr rfl fun l _ => congrArg (hat (ax m c) (ash m c) (asc m c) p l * ·) (hc l j)

/-- The slab of small pieces, at finite shifts, scales and weights. -/
theorem slab_pieces (c : Dev nD) (hsh : ∀ i, Cert.InProj.IsReal (ash m c i)) (hsc : ∀ i, Cert.InProj.IsReal (asc m c i)) (hw : ∀ i, Cert.InProj.IsReal (aw m c i))
    (p : Fin 32768) (j : Fin 128) : slab m c 384 128 (by omega) (ix2 p j) = pieces (proj (ax m c) (ash m c) (asc m c) (aw m c) p) j := by
  show ∑ l : Fin 1024, hat (ax m c) (ash m c) (asc m c) p l * (show EReal from arranged (aw m c) (ix2 l ⟨384 + j.val, by omega⟩)) = _
  exact (Finset.sum_congr rfl fun l _ => congrArg (hat (ax m c) (ash m c) (asc m c) p l * ·) (arranged1 (aw m c) l j)).trans
    (Cert.InProj.pieces_sum _ (fun l f => aw m c (ix2 l f)) (fun l => Cert.InProj.hat_real _ _ _ hsh hsc p l) (fun _ _ => hw _) j)

end Cert.Kernel4Ideal.In

namespace Cert.Pre_finite_mod

open Idealize.ShloMosaic Idealize.ShloMosaic.Tactic
open Cert.InProj (IsReal)

/-- An array whose absolute values all compare below +∞ is finite. -/
theorem real_of {s : Shape} (x : FVec Ideal s .f32)
    (h : ∀ i, FloatOps.cmpf (F := Ideal) .olt (max (show EReal from x i) (-(show EReal from x i))) (Ideal.ofBits .f32 0x7F800000#32) = 1#1) (i : s.Idx) : IsReal (x i) := by
  refine IsReal.of_ne (Cert.Pre_finite_qk.ne_of_abs_lt _ ?_)
  have := h i
  have e : Ideal.ofBits .f32 0x7F800000#32 = (⊤ : EReal) := rfl
  rw [e] at this
  by_contra hn
  have e' : FloatOps.cmpf (F := Ideal) (φ := .f32) .olt (max (show EReal from x i) (-(show EReal from x i))) (⊤ : EReal)
      = BitVec.ofBool (decide (max (show EReal from x i) (-(show EReal from x i)) < ⊤)) := rfl
  rw [e', decide_eq_false hn] at this
  exact absurd this (by decide)

/-- The precondition is the finiteness of shifts, scales and weights. -/
theorem finite (x : FVec Ideal S32768x1024 .f32) (sh sc : FVec Ideal S2x1x1024 .f32) (w : FVec Ideal S1024x2736 .f32)
    (h : @fn facts Ideal _ x sh sc w = fun _ => 1#1) : (∀ i, IsReal (sh i)) ∧ (∀ i, IsReal (sc i)) ∧ ∀ i, IsReal (w i) := by
  have h0 := congrFun h (ix0 : S_.Idx)
  have hs : Subsingleton S_.Idx := ⟨fun a b => funext fun d => d.elim0⟩
  obtain ⟨h1, h3⟩ := IntOp.andi_eq_one.1 h0
  obtain ⟨h1, h2⟩ := IntOp.andi_eq_one.1 h1
  exact ⟨real_of sh fun i => Host.reduce_andi_all _ _ _ _ _ h1 i, real_of sc fun i => Host.reduce_andi_all _ _ _ _ _ h2 i,
    real_of w fun i => Host.reduce_andi_all _ _ _ _ _ h3 i⟩

end Cert.Pre_finite_mod

namespace Cert.Proof

open Idealize.ShloMosaic Idealize.ShloMosaic.Tactic Idealize.SL.Sem
open Cert.Kernel4Ideal.In (slab slab_proj slab_pieces arranged0 arranged2 arranged3 arranged4 arranged5)

theorem algebraic4 : Cert.algebraic_Kernel4Ideal_Reference4Ideal_pre_finite_mod (hPre_finite_mod := Cert.Pre_finite_mod.facts) := by
  intro m g m' g' hpre hagree
  refine ⟨fun c => slab m c 0 384 (by omega), fun c => slab m c 384 128 (by omega), fun c => slab m c 512 512 (by omega),
    fun c => slab m c 1024 768 (by omega), fun c => slab m c 1792 768 (by omega), fun c => slab m c 2560 256 (by omega), ?_, ?_⟩
  · refine (θ_run _ _ _).mono (fun r h c => ?_) (Cert.Kernel4Ideal.Value.run_blocks m g)
    obtain ⟨h0, h1, h2, h3, h4, h5, hk⟩ := h c
    exact ⟨h0.trans (Cert.Kernel4Ideal.In.final0 m c), h1.trans (Cert.Kernel4Ideal.In.final1 m c), h2.trans (Cert.Kernel4Ideal.In.final2 m c),
      h3.trans (Cert.Kernel4Ideal.In.final3 m c), h4.trans (Cert.Kernel4Ideal.In.final4 m c), h5.trans (Cert.Kernel4Ideal.In.final5 m c), hk⟩
  · refine (θ_run _ _ _).mono (fun r h c => ?_) (Cert.Reference4Ideal.run_in m' g')
    obtain ⟨h0, h1, h2, h3, h4, h5, hk⟩ := h c
    obtain ⟨hsh, hsc, hw⟩ := Cert.Pre_finite_mod.finite _ _ _ _ (hpre c)
    obtain ⟨e0, e1, e2, e3⟩ := hagree c
    rw [Cert.Reference4Ideal.um, e0, e1, e2, e3] at h0 h1 h2 h3 h4 h5
    refine ⟨h0.trans ?_, h1.trans ?_, h2.trans ?_, h3.trans ?_, h4.trans ?_, h5.trans ?_, hk⟩
    · funext i
      idx_vars i
      refine (Cert.Reference4Ideal.s0_at _ _ _).trans ((Cert.Reference4Ideal.u_at _ _ _ _ _ _).trans ?_)
      refine Eq.trans ?_ (slab_proj m c 0 0 384 (by omega) (by omega) (fun l j => (arranged0 _ l j).trans ?_) _ _).symm
      · exact congrArg (Cert.InProj.proj _ _ _ _ _) (Fin.ext (Nat.zero_add _).symm)
      · exact congrArg (fun q => Cert.Kernel4Ideal.In.aw m c (ix2 l q)) (Fin.ext (Nat.zero_add _).symm)
    · funext i
      idx_vars i
      refine (Cert.Reference4Ideal.s1_at _ _ _).trans (Eq.trans ?_ (slab_pieces m c hsh hsc hw _ _).symm)
      exact congrArg (fun u => Cert.InProj.pieces u _) (funext fun f => Cert.Reference4Ideal.u_at _ _ _ _ _ _)
    · funext i
      idx_vars i
      exact (Cert.Reference4Ideal.s2_at _ _ _).trans ((Cert.Reference4Ideal.u_at _ _ _ _ _ _).trans (slab_proj m c 512 416 512 (by omega) (by omega) (arranged2 _) _ _).symm)
    · funext i
      idx_vars i
      exact (Cert.Reference4Ideal.s3_at _ _ _).trans ((Cert.Reference4Ideal.u_at _ _ _ _ _ _).trans (slab_proj m c 1024 928 768 (by omega) (by omega) (arranged3 _) _ _).symm)
    · funext i
      idx_vars i
      exact (Cert.Reference4Ideal.s4_at _ _ _).trans ((Cert.Reference4Ideal.u_at _ _ _ _ _ _).trans (slab_proj m c 1792 1704 768 (by omega) (by omega) (arranged4 _) _ _).symm)
    · funext i
      idx_vars i
      exact (Cert.Reference4Ideal.s5_at _ _ _).trans ((Cert.Reference4Ideal.u_at _ _ _ _ _ _).trans (slab_proj m c 2560 2472 256 (by omega) (by omega) (arranged5 _) _ _).symm)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Frames
public import proofs.«01_k».proof.Proof.Algebraic
public import proofs.«01_k».proof.Proof.ExpertFrames
public import proofs.«01_k».proof.Proof.ExpertValue
public import proofs.«01_k».proof.Proof.FfnFrames
public import proofs.«01_k».proof.Proof.FfnValue
public import proofs.«01_k».proof.Proof.InFrames
public import proofs.«01_k».proof.Proof.InValue

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_qk.facts, Cert.Pre_experts_exist.facts, Cert.Pre_finite_mod.facts,
  frame_Kernel, frame_KernelIdeal, frame_KernelIdeal_pre, frame_ReferenceIdeal, frame_ReferenceIdeal_pre,
  frame_Kernel2, frame_Kernel2Ideal, frame_Reference2Ideal, frame_Kernel3, frame_Kernel3Ideal, frame_Reference3Ideal,
  frame_Kernel4, frame_Kernel4Ideal, frame_Kernel4Ideal_pre, frame_Reference4Ideal, frame_Reference4Ideal_pre,
  trivial, algebraic, trivial, algebraic2, trivial, algebraic3, trivial, algebraic4⟩

end Cert.Proof

end
